-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_on_spread [hKernelIdeal : Cert.KernelIdeal.Facts] [hReferenceIdeal : Cert.ReferenceIdeal.Facts] [hOn_spread : Cert.On_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v25)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v20)) (v5 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![128, 300]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v18) i = v0 c i)
          ∧ (∀ i : (⟨2, ![128, 300]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v19) i = v1 c i)
          ∧ (∀ i : (⟨3, ![128, 300, 2]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.KernelIdeal.nD Cert.KernelIdeal.τ).loc Cert.KernelIdeal.main_v25) i = v2 c i)
          ∧ (∀ i : (⟨3, ![128, 300, 2]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.KernelIdeal.nD Cert.KernelIdeal.τ).loc Cert.KernelIdeal.main_v30) i = v3 c i)
          ∧ (∀ i : (⟨2, ![128, 300]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 i = 1#1 → r.2.mem ((c.tc : Thread Cert.KernelIdeal.nD Cert.KernelIdeal.τ).loc Cert.KernelIdeal.main_v20) i = v4 c i)
          ∧ (∀ i : (⟨1, ![128]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 i = 1#1 → r.2.mem ((c.tc : Thread Cert.KernelIdeal.nD Cert.KernelIdeal.τ).loc Cert.KernelIdeal.main_v31) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![128, 300]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_values) i = v0 c i)
          ∧ (∀ i : (⟨2, ![128, 300]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v8) i = v1 c i)
          ∧ (∀ i : (⟨3, ![128, 300, 2]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 i = 1#1 → r.2.mem ((c.tc : Thread Cert.ReferenceIdeal.nD Cert.ReferenceIdeal.τ).loc Cert.ReferenceIdeal.main_v30) i = v2 c i)
          ∧ (∀ i : (⟨3, ![128, 300, 2]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 i = 1#1 → r.2.mem ((c.tc : Thread Cert.ReferenceIdeal.nD Cert.ReferenceIdeal.τ).loc Cert.ReferenceIdeal.main_v21) i = v3 c i)
          ∧ (∀ i : (⟨2, ![128, 300]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 i = 1#1 → r.2.mem ((c.tc : Thread Cert.ReferenceIdeal.nD Cert.ReferenceIdeal.τ).loc Cert.ReferenceIdeal.main_v7) i = v4 c i)
          ∧ (∀ i : (⟨1, ![128]⟩ : Shape).Idx, (Cert.On_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 i = 1#1 → r.2.mem ((c.tc : Thread Cert.ReferenceIdeal.nD Cert.ReferenceIdeal.τ).loc Cert.ReferenceIdeal.main_v32) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hOn_spread : Cert.On_spread.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_spread (hKernelIdeal := hKernelIdeal) (hReferenceIdeal := hReferenceIdeal) (hOn_spread := hOn_spread)
-- ==== On_spread.lean ====
abbrev S128x300x91 : Shape := ⟨3, ![128, 300, 91]⟩
abbrev S128x300x2 : Shape := ⟨3, ![128, 300, 2]⟩
abbrev S128 : Shape := ⟨1, ![128]⟩
abbrev S128x301 : Shape := ⟨2, ![128, 301]⟩
abbrev S_ : Shape := ⟨0, ![]⟩
abbrev S128x27300 : Shape := ⟨2, ![128, 27300]⟩
abbrev S128x300 : Shape := ⟨2, ![128, 300]⟩
abbrev S128x300x1 : Shape := ⟨3, ![128, 300, 1]⟩
abbrev S128x1x300 : Shape := ⟨3, ![128, 1, 300]⟩
abbrev S128x300x300 : Shape := ⟨3, ![128, 300, 300]⟩

class Facts : Prop where
  bcast_S_S128x300x91 : S_.BroadcastsInDim S128x300x91 (![] : Fin 0 → Fin S128x300x91.rank)
  shapeCasts_S128x300x91_S128x27300 : S128x300x91.ShapeCasts S128x27300
  sliceFits_S128x27300_S128x300 : S128x27300.Slices (fun _ => 0) S128x300
  bcast_S_S128x300 : S_.BroadcastsInDim S128x300 (![] : Fin 0 → Fin S128x300.rank)
  bcast_S128x300_S128x300x1_0_1 : S128x300.BroadcastsInDim S128x300x1 (![0, 1] : Fin 2 → Fin S128x300x1.rank)
  bcast_S128x300_S128x1x300_0_2 : S128x300.BroadcastsInDim S128x1x300 (![0, 2] : Fin 2 → Fin S128x1x300.rank)
  bcast_S128x300x1_S128x300x300_0_1_2 : S128x300x1.BroadcastsInDim S128x300x300 (![0, 1, 2] : Fin 3 → Fin S128x300x300.rank)
  bcast_S128x1x300_S128x300x300_0_1_2 : S128x1x300.BroadcastsInDim S128x300x300 (![0, 1, 2] : Fin 3 → Fin S128x300x300.rank)
  natLt_1_32 : 1 < 32
  reducesTo_S128x300x300_S128x300_d2 : S128x300x300.ReducesTo [2] S128x300
  h_S_ : 0 < S_.numel
  bcast_S128x300_S128x300x300_0_2 : S128x300.BroadcastsInDim S128x300x300 (![0, 2] : Fin 2 → Fin S128x300x300.rank)
  bcast_S128x300_S128x300x2_0_1 : S128x300.BroadcastsInDim S128x300x2 (![0, 1] : Fin 2 → Fin S128x300x2.rank)
  bcast_S_S128x300x2 : S_.BroadcastsInDim S128x300x2 (![] : Fin 0 → Fin S128x300x2.rank)
  bcast_S_S128 : S_.BroadcastsInDim S128 (![] : Fin 0 → Fin S128.rank)

variable [Facts]

def fn_part1 {F : FTy → Type} [FloatOps F] (main_v16 : IVec S128x300x300 1) (main_v18 : IVec S128x300x300 32) : IVec S128x300 1 × IVec S128x300 1 × IVec S128x300x2 1 × IVec S128x300x2 1 × IVec S128x300 1 × IVec S128 1 :=
  let main_c_1 : IVec S_ 32 := constantI S_ 32 0#32
  let main_v19 : IVec S128x300 32 := (fun x v => Host.reduce IntOp.addi x v reducesTo_S128x300x300_S128x300_d2 h_S_) main_v18 main_c_1
  let main_c_2 : IVec S_ 32 := constantI S_ 32 16#32
  let main_v20 : IVec S128x300 32 := broadcastInDim S128x300 ![] bcast_S_S128x300 main_c_2
  let main_v21 : IVec S128x300 1 := cmpi .sle main_v19 main_v20
  let main_v22 : IVec S128x300x300 1 := broadcastInDim S128x300x300 ![0, 2] bcast_S128x300_S128x300x300_0_2 main_v21
  let main_v23 : IVec S128x300x300 1 := noti main_v16
  let main_v24 : IVec S128x300x300 1 := ori main_v22 main_v23
  let main_c_3 : IVec S_ 1 := constantI S_ 1 1#1
  let main_v25 : IVec S128x300 1 := (fun x v => Host.reduce IntOp.andi x v reducesTo_S128x300x300_S128x300_d2 h_S_) main_v24 main_c_3
  let main_v26 : IVec S128x300x2 1 := broadcastInDim S128x300x2 ![0, 1] bcast_S128x300_S128x300x2_0_1 main_v25
  let main_c_4 : IVec S_ 1 := constantI S_ 1 1#1
  let main_v27 : IVec S128x300x2 1 := broadcastInDim S128x300x2 ![] bcast_S_S128x300x2 main_c_4
  let main_c_5 : IVec S_ 1 := constantI S_ 1 1#1
  let main_v28 : IVec S128 1 := broadcastInDim S128 ![] bcast_S_S128 main_c_5
  (main_v25, main_v25, main_v26, main_v27, main_v25, main_v28)

def fn {F : FTy → Type} [FloatOps F] (main_arg0 : FVec F S128x300x91 .f32) (main_arg1 : FVec F S128x300x2 .f32) (main_arg2 : FVec F S128 .f32) (main_arg3 : FVec F S128x301 .f32) : IVec S128x300 1 × IVec S128x300 1 × IVec S128x300x2 1 × IVec S128x300x2 1 × IVec S128x300 1 × IVec S128 1 :=
  let main_v0 : FVec F S128x300x91 .f32 := Host.negf main_arg0
  let main_v1 : FVec F S128x300x91 .f32 := Host.exp main_v0
  let main_cst : FVec F S_ .f32 := constant S_ .f32 0x3F800000#32
  let main_v2 : FVec F S128x300x91 .f32 := broadcastInDim S128x300x91 ![] bcast_S_S128x300x91 main_cst
  let main_v3 : FVec F S128x300x91 .f32 := addf main_v2 main_v1
  let main_cst_0 : FVec F S_ .f32 := constant S_ .f32 0x3F800000#32
  let main_v4 : FVec F S128x300x91 .f32 := broadcastInDim S128x300x91 ![] bcast_S_S128x300x91 main_cst_0
  let main_v5 : FVec F S128x300x91 .f32 := Host.divf main_v4 main_v3
  let main_v6 : FVec F S128x27300 .f32 := shapeCast S128x27300 main_v5 shapeCasts_S128x300x91_S128x27300
  let main_values : FVec F S128x300 .f32 := (fun x => (Host.topK S128x300 1 (FloatOps.cmpfTotal .gt) x sliceFits_S128x27300_S128x300).1) main_v6
  let main_indices : IVec S128x300 32 := (fun x => (Host.topK S128x300 1 (FloatOps.cmpfTotal .gt) x sliceFits_S128x27300_S128x300).2) main_v6
  let main_c : IVec S_ 32 := constantI S_ 32 128#32
  let main_v7 : IVec S128x300 32 := broadcastInDim S128x300 ![] bcast_S_S128x300 main_c
  let main_v8 : IVec S128x300 32 := Host.divsi main_indices main_v7
  let main_v9 : IVec S128x300x1 32 := broadcastInDim S128x300x1 ![0, 1] bcast_S128x300_S128x300x1_0_1 main_v8
  let main_v10 : IVec S128x1x300 32 := broadcastInDim S128x1x300 ![0, 2] bcast_S128x300_S128x1x300_0_2 main_v8
  let main_v11 : IVec S128x300x300 32 := broadcastInDim S128x300x300 ![0, 1, 2] bcast_S128x300x1_S128x300x300_0_1_2 main_v9
  let main_v12 : IVec S128x300x300 32 := broadcastInDim S128x300x300 ![0, 1, 2] bcast_S128x1x300_S128x300x300_0_1_2 main_v10
  let main_v13 : IVec S128x300x300 1 := cmpi .eq main_v11 main_v12
  let main_v14 : IVec S128x300x300 32 := iotaInDim S128x300x300 32 2
  let main_v15 : IVec S128x300x300 32 := iotaInDim S128x300x300 32 1
  let main_v16 : IVec S128x300x300 1 := cmpi .sle main_v14 main_v15
  let main_v17 : IVec S128x300x300 1 := andi main_v13 main_v16
  let main_v18 : IVec S128x300x300 32 := (extui 32 · natLt_1_32) main_v17
  fn_part1 (F := F) main_v16 main_v18
-- ==== Kernel.lean ====
abbrev S128x300x91 : Shape := ⟨3, ![128, 300, 91]⟩
abbrev S128x300x2 : Shape := ⟨3, ![128, 300, 2]⟩
abbrev S128 : Shape := ⟨1, ![128]⟩
abbrev S128x301 : Shape := ⟨2, ![128, 301]⟩
abbrev S128x27300 : Shape := ⟨2, ![128, 27300]⟩
abbrev S_ : Shape := ⟨0, ![]⟩
abbrev S128x27392 : Shape := ⟨2, ![128, 27392]⟩
abbrev S128x214x128 : Shape := ⟨3, ![128, 214, 128]⟩
abbrev S128x300x1 : Shape := ⟨3, ![128, 300, 1]⟩
abbrev S128x300 : Shape := ⟨2, ![128, 300]⟩
abbrev S128x384 : Shape := ⟨2, ![128, 384]⟩
abbrev S128x1 : Shape := ⟨2, ![128, 1]⟩
abbrev S128x304 : Shape := ⟨2, ![128, 304]⟩
abbrev S128x214 : Shape := ⟨2, ![128, 214]⟩
abbrev S128x214x1 : Shape := ⟨3, ![128, 214, 1]⟩
abbrev S128x2 : Shape := ⟨2, ![128, 2]⟩
abbrev S128x216 : Shape := ⟨2, ![128, 216]⟩
abbrev S128x3456 : Shape := ⟨2, ![128, 3456]⟩
abbrev S1x304 : Shape := ⟨2, ![1, 304]⟩
abbrev S128x16x384 : Shape := ⟨3, ![128, 16, 384]⟩
abbrev S128x16 : Shape := ⟨2, ![128, 16]⟩
abbrev S128x16x1 : Shape := ⟨3, ![128, 16, 1]⟩

abbrev nBuf : Space → Nat
  | .hbm => 53
  | .vmem => 13
  | .smem => 0
  | _ => 0

abbrev bufTy : (tb : Table) → Fin (tcTables nBuf tb) → BufTy
  | .hbm, ⟨0, _⟩ => ⟨S128x300x91, .f32⟩
  | .hbm, ⟨1, _⟩ => ⟨S128x300x2, .f32⟩
  | .hbm, ⟨2, _⟩ => ⟨S128, .f32⟩
  | .hbm, ⟨3, _⟩ => ⟨S128x301, .f32⟩
  | .hbm, ⟨4, _⟩ => ⟨S128x27300, .f32⟩
  | .hbm, ⟨5, _⟩ => ⟨S128x27300, .f32⟩
  | .hbm, ⟨6, _⟩ => ⟨S128x27300, .f32⟩
  | .hbm, ⟨7, _⟩ => ⟨S_, .f32⟩
  | .hbm, ⟨8, _⟩ => ⟨S128x27300, .f32⟩
  | .hbm, ⟨9, _⟩ => ⟨S128x27300, .f32⟩
  | .hbm, ⟨10, _⟩ => ⟨S_, .f32⟩
  | .hbm, ⟨11, _⟩ => ⟨S128x27300, .f32⟩
  | .hbm, ⟨12, _⟩ => ⟨S128x27300, .f32⟩
  | .hbm, ⟨13, _⟩ => ⟨S_, .f32⟩
  | .hbm, ⟨14, _⟩ => ⟨S_, .f32⟩
  | .hbm, ⟨15, _⟩ => ⟨S128x27392, .f32⟩
  | .hbm, ⟨16, _⟩ => ⟨S128x214x128, .f32⟩
  | .hbm, ⟨17, _⟩ => ⟨S128x300x1, .f32⟩
  | .hbm, ⟨18, _⟩ => ⟨S128x300, .f32⟩
  | .hbm, ⟨19, _⟩ => ⟨S_, .i32⟩
  | .hbm, ⟨20, _⟩ => ⟨S_, .f32⟩
  | .hbm, ⟨21, _⟩ => ⟨S128x384, .f32⟩
  | .hbm, ⟨22, _⟩ => ⟨S128x300x1, .f32⟩
  | .hbm, ⟨23, _⟩ => ⟨S128x300, .f32⟩
  | .hbm, ⟨24, _⟩ => ⟨S_, .i32⟩
  | .hbm, ⟨25, _⟩ => ⟨S_, .f32⟩
  | .hbm, ⟨26, _⟩ => ⟨S128x384, .f32⟩
  | .hbm, ⟨27, _⟩ => ⟨S_, .f32⟩
  | .hbm, ⟨28, _⟩ => ⟨S_, .f32⟩
  | .hbm, ⟨29, _⟩ => ⟨S128x384, .f32⟩
  | .hbm, ⟨30, _⟩ => ⟨S128x1, .f32⟩
  | .hbm, ⟨31, _⟩ => ⟨S128x304, .f32⟩
  | .hbm, ⟨32, _⟩ => ⟨S128x304, .i32⟩
  | .hbm, ⟨33, _⟩ => ⟨S128x304, .i32⟩
  | .hbm, ⟨34, _⟩ => ⟨S128x304, .f32⟩
  | .hbm, ⟨35, _⟩ => ⟨S128x304, .f32⟩
  | .hbm, ⟨36, _⟩ => ⟨S128x384, .f32⟩
  | .hbm, ⟨37, _⟩ => ⟨S128x384, .f32⟩
  | .hbm, ⟨38, _⟩ => ⟨S128x1, .i32⟩
  | .hbm, ⟨39, _⟩ => ⟨S128x300, .f32⟩
  | .hbm, ⟨40, _⟩ => ⟨S128x300, .i32⟩
  | .hbm, ⟨41, _⟩ => ⟨S128x300, .i32⟩
  | .hbm, ⟨42, _⟩ => ⟨S128x300, .f32⟩
  | .hbm, ⟨43, _⟩ => ⟨S128x300, .f32⟩
  | .hbm, ⟨44, _⟩ => ⟨S128x300x1, .f32⟩
  | .hbm, ⟨45, _⟩ => ⟨S128x300x1, .f32⟩
  | .hbm, ⟨46, _⟩ => ⟨S128x300x2, .f32⟩
  | .hbm, ⟨47, _⟩ => ⟨S128x300, .f32⟩
  | .hbm, ⟨48, _⟩ => ⟨S128x300, .f32⟩
  | .hbm, ⟨49, _⟩ => ⟨S128x300x1, .f32⟩
  | .hbm, ⟨50, _⟩ => ⟨S128x300x1, .f32⟩
  | .hbm, ⟨51, _⟩ => ⟨S128x300x2, .f32⟩
  | .hbm, ⟨52, _⟩ => ⟨S128, .i32⟩
  | .local _ .vmem, ⟨0, _⟩ => ⟨S128x214x128, .f32⟩
  | .local _ .vmem, ⟨1, _⟩ => ⟨S128x384, .f32⟩
  | .local _ .vmem, ⟨2, _⟩ => ⟨S128x384, .f32⟩
  | .local _ .vmem, ⟨3, _⟩ => ⟨S128x384, .f32⟩
  | .local _ .vmem, ⟨4, _⟩ => ⟨S128x1, .f32⟩
  | .local _ .vmem, ⟨5, _⟩ => ⟨S128x304, .f32⟩
  | .local _ .vmem, ⟨6, _⟩ => ⟨S128x304, .i32⟩
  | .local _ .vmem, ⟨7, _⟩ => ⟨S128x304, .i32⟩
  | .local _ .vmem, ⟨8, _⟩ => ⟨S128x304, .f32⟩
  | .local _ .vmem, ⟨9, _⟩ => ⟨S128x304, .f32⟩
  | .local _ .vmem, ⟨10, _⟩ => ⟨S128x384, .f32⟩
  | .local _ .vmem, ⟨11, _⟩ => ⟨S128x384, .f32⟩
  | .local _ .vmem, ⟨12, _⟩ => ⟨S128x1, .i32⟩
  | _, _ => ⟨S128x300x91, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_call2_v0 : Ref sig .tc := ⟨.hbm, 25, rfl⟩
abbrev main_v14 : Ref sig .tc := ⟨.hbm, 26, rfl⟩
abbrev main_cst_3 : Ref sig .tc := ⟨.hbm, 27, rfl⟩
abbrev main_call3_v0 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev main_v17_3 : Ref sig .tc := ⟨.hbm, 34, rfl⟩
abbrev main_v17_4 : Ref sig .tc := ⟨.hbm, 35, rfl⟩
abbrev main_v17_5 : Ref sig .tc := ⟨.hbm, 36, rfl⟩
abbrev main_v17_6 : Ref sig .tc := ⟨.hbm, 37, rfl⟩
abbrev main_v17_7 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c300_i32 : BitVec 32 := 300#32
  let v345 : BitVec 32 := Scalar.addi c0_i32 c300_i32
  let c1_i32 : BitVec 32 := 1#32
  ⟨c0_i32, v345, c1_i32⟩
abbrev stage0_0 : Fin 1 → Memref sig .tc .vmem S128x214x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x304 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x304 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x304 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x304 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== ReferenceIdeal.lean ====
abbrev S128x300x91 : Shape := ⟨3, ![128, 300, 91]⟩
abbrev S128x300x2 : Shape := ⟨3, ![128, 300, 2]⟩
abbrev S128 : Shape := ⟨1, ![128]⟩
abbrev S128x301 : Shape := ⟨2, ![128, 301]⟩
abbrev S_ : Shape := ⟨0, ![]⟩
abbrev S128x27300 : Shape := ⟨2, ![128, 27300]⟩
abbrev S128x300 : Shape := ⟨2, ![128, 300]⟩
abbrev S128x300x1 : Shape := ⟨3, ![128, 300, 1]⟩
abbrev S1 : Shape := ⟨1, ![1]⟩
abbrev S1x1x1 : Shape := ⟨3, ![1, 1, 1]⟩
abbrev S128x1 : Shape := ⟨2, ![128, 1]⟩
abbrev S128x2 : Shape := ⟨2, ![128, 2]⟩
abbrev S128x1x2 : Shape := ⟨3, ![128, 1, 2]⟩

abbrev nBuf : Space → Nat
  | .hbm => 116
  | .vmem => 0
  | .smem => 0
  | _ => 0

abbrev bufTy : (tb : Table) → Fin (tcTables nBuf tb) → BufTy
  | .hbm, ⟨0, _⟩ => ⟨S128x300x91, .f32⟩
  | .hbm, ⟨1, _⟩ => ⟨S128x300x2, .f32⟩
  | .hbm, ⟨2, _⟩ => ⟨S128, .f32⟩
  | .hbm, ⟨3, _⟩ => ⟨S128x301, .f32⟩
  | .hbm, ⟨4, _⟩ => ⟨S128x300x91, .f32⟩
  | .hbm, ⟨5, _⟩ => ⟨S128x300x91, .f32⟩
  | .hbm, ⟨6, _⟩ => ⟨S_, .f32⟩
  | .hbm, ⟨7, _⟩ => ⟨S128x300x91, .f32⟩
  | .hbm, ⟨8, _⟩ => ⟨S128x300x91, .f32⟩
  | .hbm, ⟨9, _⟩ => ⟨S_, .f32⟩
  | .hbm, ⟨10, _⟩ => ⟨S128x300x91, .f32⟩
  | .hbm, ⟨11, _⟩ => ⟨S128x300x91, .f32⟩
  | .hbm, ⟨12, _⟩ => ⟨S128x27300, .f32⟩
  | .hbm, ⟨13, _⟩ => ⟨S128x300, .f32⟩
  | .hbm, ⟨14, _⟩ => ⟨S128x300, .i32⟩
  | .hbm, ⟨15, _⟩ => ⟨S_, .i32⟩
  | .hbm, ⟨16, _⟩ => ⟨S_, .i32⟩
  | .hbm, ⟨17, _⟩ => ⟨S128x300, .i32⟩
  | .hbm, ⟨18, _⟩ => ⟨S128x300, .i32⟩
  | .hbm, ⟨19, _⟩ => ⟨S128x300, .i32⟩
  | .hbm, ⟨20, _⟩ => ⟨S_, .i32⟩
  | .hbm, ⟨21, _⟩ => ⟨S128x300, .i32⟩
  | .hbm, ⟨22, _⟩ => ⟨S128x300, .i1⟩
  | .hbm, ⟨23, _⟩ => ⟨S128x300, .i32⟩
  | .hbm, ⟨24, _⟩ => ⟨S128x300, .i32⟩
  | .hbm, ⟨25, _⟩ => ⟨S_, .i32⟩
  | .hbm, ⟨26, _⟩ => ⟨S128x300, .i32⟩
  | .hbm, ⟨27, _⟩ => ⟨S128x300, .i1⟩
  | .hbm, ⟨28, _⟩ => ⟨S128x300, .i1⟩
  | .hbm, ⟨29, _⟩ => ⟨S_, .i32⟩
  | .hbm, ⟨30, _⟩ => ⟨S128x300, .i32⟩
  | .hbm, ⟨31, _⟩ => ⟨S128x300, .i32⟩
  | .hbm, ⟨32, _⟩ => ⟨S128x300, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i1⟩
  | .hbm, ⟨37, _⟩ => ⟨S_, .i32⟩
  | .hbm, ⟨38, _⟩ => ⟨S_, .i32⟩
  | .hbm, ⟨39, _⟩ => ⟨S128x300, .i32⟩
  | .hbm, ⟨40, _⟩ => ⟨S128x300, .i32⟩
  | .hbm, ⟨41, _⟩ => ⟨S_, .i32⟩
  | .hbm, ⟨42, _⟩ => ⟨S128x300, .i32⟩
  | .hbm, ⟨43, _⟩ => ⟨S128x300, .i1⟩
  | .hbm, ⟨44, _⟩ => ⟨S_, .i32⟩
  | .hbm, ⟨45, _⟩ => ⟨S128x300, .i32⟩
  | .hbm, ⟨46, _⟩ => ⟨S128x300, .i1⟩
  | .hbm, ⟨47, _⟩ => ⟨S_, .i32⟩
  | .hbm, ⟨48, _⟩ => ⟨S_, .i1⟩
  | .hbm, ⟨49, _⟩ => ⟨S128x300, .i1⟩
  | .hbm, ⟨50, _⟩ => ⟨S128x300, .i1⟩
  | .hbm, ⟨51, _⟩ => ⟨S128x300, .i1⟩
  | .hbm, ⟨52, _⟩ => ⟨S128x300, .i32⟩
  | .hbm, ⟨53, _⟩ => ⟨S128x300, .i32⟩
  | .hbm, ⟨54, _⟩ => ⟨S128x300, .i32⟩
  | .hbm, ⟨55, _⟩ => ⟨S128x300x1, .f32⟩
  | .hbm, ⟨56, _⟩ => ⟨S128x300, .f32⟩
  | .hbm, ⟨57, _⟩ => ⟨S128x300x1, .f32⟩
  | .hbm, ⟨58, _⟩ => ⟨S128x300, .f32⟩
  | .hbm, ⟨59, _⟩ => ⟨S_, .f32⟩
  | .hbm, ⟨60, _⟩ => ⟨S128x300, .f32⟩
  | .hbm, ⟨61, _⟩ => ⟨S128x300, .f32⟩
  | .hbm, ⟨62, _⟩ => ⟨S128x300, .f32⟩
  | .hbm, ⟨63, _⟩ => ⟨S_, .f32⟩
  | .hbm, ⟨64, _⟩ => ⟨S128x300, .f32⟩
  | .hbm, ⟨65, _⟩ => ⟨S128x300, .f32⟩
  | .hbm, ⟨66, _⟩ => ⟨S128x300, .f32⟩
  | .hbm, ⟨67, _⟩ => ⟨S128x300x1, .f32⟩
  | .hbm, ⟨68, _⟩ => ⟨S128x300x1, .f32⟩
  | .hbm, ⟨69, _⟩ => ⟨S128x300x2, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S128x300x2, .f32⟩
  | .hbm, ⟨74, _⟩ => ⟨S128x300x2, .f32⟩
  | .hbm, ⟨75, _⟩ => ⟨S_, .f32⟩
  | .hbm, ⟨76, _⟩ => ⟨S128x300x2, .f32⟩
  | .hbm, ⟨77, _⟩ => ⟨S128x300x2, .f32⟩
  | .hbm, ⟨78, _⟩ => ⟨S128x300x1, .i32⟩
  | .hbm, ⟨79, _⟩ => ⟨S_, .i32⟩
  | .hbm, ⟨80, _⟩ => ⟨S128x300x1, .i32⟩
  | .hbm, ⟨81, _⟩ => ⟨S128x300x1, .i1⟩
  | .hbm, ⟨82, _⟩ => ⟨S_, .i32⟩
  | .hbm, ⟨83, _⟩ => ⟨S128x300x1, .i32⟩
  | .hbm, ⟨84, _⟩ => ⟨S128x300x1, .i32⟩
  | .hbm, ⟨85, _⟩ => ⟨S128x300x1, .i32⟩
  | .hbm, ⟨86, _⟩ => ⟨S1, .i32⟩
  | .hbm, ⟨87, _⟩ => ⟨S_, .i32⟩
  | .hbm, ⟨88, _⟩ => ⟨S128x300x1, .i32⟩
  | .hbm, ⟨89, _⟩ => ⟨S128x300x1, .i1⟩
  | .hbm, ⟨90, _⟩ => ⟨S1x1x1, .i32⟩
  | .hbm, ⟨91, _⟩ => ⟨S128x300x1, .i32⟩
  | .hbm, ⟨92, _⟩ => ⟨S128x300x1, .i1⟩
  | .hbm, ⟨93, _⟩ => ⟨S128x300x1, .i1⟩
  | .hbm, ⟨94, _⟩ => ⟨S_, .i1⟩
  | .hbm, ⟨95, _⟩ => ⟨S128x300, .i1⟩
  | .hbm, ⟨96, _⟩ => ⟨S128x300x2, .f32⟩
  | .hbm, ⟨97, _⟩ => ⟨S128x300x2, .i1⟩
  | .hbm, ⟨98, _⟩ => ⟨S_, .f32⟩
  | .hbm, ⟨99, _⟩ => ⟨S128x300x2, .f32⟩
  | .hbm, ⟨100, _⟩ => ⟨S128x300x2, .f32⟩
  | .hbm, ⟨101, _⟩ => ⟨S128x1, .f32⟩
  | .hbm, ⟨102, _⟩ => ⟨S128x1, .f32⟩
  | .hbm, ⟨103, _⟩ => ⟨S128x2, .f32⟩
  | .hbm, ⟨104, _⟩ => ⟨S128x1x2, .f32⟩
  | .hbm, ⟨105, _⟩ => ⟨S128x300x2, .f32⟩
  | .hbm, ⟨106, _⟩ => ⟨S128x300x2, .f32⟩
  | .hbm, ⟨107, _⟩ => ⟨S128x301, .i32⟩
  | .hbm, ⟨108, _⟩ => ⟨S_, .f32⟩
  | .hbm, ⟨109, _⟩ => ⟨S_, .i32⟩
  | .hbm, ⟨110, _⟩ => ⟨S128, .f32⟩
  | .hbm, ⟨111, _⟩ => ⟨S128, .i32⟩
  | .hbm, ⟨112, _⟩ => ⟨S_, .i32⟩
  | .hbm, ⟨113, _⟩ => ⟨S_, .i32⟩
  | .hbm, ⟨114, _⟩ => ⟨S128, .i32⟩
  | .hbm, ⟨115, _⟩ => ⟨S128, .i32⟩
  | _, _ => ⟨S128x300x91, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_values : Ref sig .tc := ⟨.hbm, 13, rfl⟩
abbrev main_indices : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_1 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_cst_2 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_cst_3 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_4 : Ref sig .tc := ⟨.hbm, 70, rfl⟩
abbrev main_cst_5 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v22 : Ref sig .tc := ⟨.hbm, 77, rfl⟩
abbrev main_v23 : Ref sig .tc := ⟨.hbm, 78, rfl⟩
abbrev main_call3_c : Ref sig .tc := ⟨.hbm, 79, rfl⟩
abbrev main_call3_v0 : Ref sig .tc := ⟨.hbm, 80, rfl⟩
abbrev main_call3_v1 : Ref sig .tc := ⟨.hbm, 81, rfl⟩
abbrev main_call3_c_0 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_c_1 : Ref sig .tc := ⟨.hbm, 86, rfl⟩
abbrev main_call3_c_2 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_c_3 : Ref sig .tc := ⟨.hbm, 94, rfl⟩
abbrev main_call3_v11 : Ref sig .tc := ⟨.hbm, 95, rfl⟩
abbrev main_call3_v12 : Ref sig .tc := ⟨.hbm, 96, rfl⟩
abbrev main_call3_v13 : Ref sig .tc := ⟨.hbm, 97, rfl⟩
abbrev main_call3_cst : Ref sig .tc := ⟨.hbm, 98, rfl⟩
abbrev main_call3_v14 : Ref sig .tc := ⟨.hbm, 99, rfl⟩
abbrev main_v24 : Ref sig .tc := ⟨.hbm, 100, rfl⟩
abbrev main_v25 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_v29 : Ref sig .tc := ⟨.hbm, 105, rfl⟩
abbrev main_v30 : Ref sig .tc := ⟨.hbm, 106, rfl⟩
abbrev main_call4_v0 : Ref sig .tc := ⟨.hbm, 107, rfl⟩
abbrev main_call4_cst : Ref sig .tc := ⟨.hbm, 108, rfl⟩
abbrev main_call4_c : Ref sig .tc := ⟨.hbm, 109, rfl⟩
abbrev main_call4_v1_0 : Ref sig .tc := ⟨.hbm, 110, rfl⟩
abbrev main_v31 : Ref sig .tc := ⟨.hbm, 111, rfl⟩
abbrev main_c_6 : Ref sig .tc := ⟨.hbm, 112, rfl⟩
abbrev main_call5_v0 : Ref sig .tc := ⟨.hbm, 113, rfl⟩
abbrev main_call5_v1 : Ref sig .tc := ⟨.hbm, 114, rfl⟩
abbrev main_v32 : Ref sig .tc := ⟨.hbm, 115, rfl⟩

abbrev nD : Nat := 1
abbrev τ : Topo := Topo.v7x

variable {F : FTy → Type} [FloatOps F]
-- ==== Proof.Stages.lean ====
/-
  What the kernel computes on the blocks it reads, stage by stage: sixteen rounds over the chunks of a row's scores, 300 trips
  over the candidates that the rounds found, and from the flat positions found the class, the box and its scaled edges.
-/
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Claim
public import Idealize.ShloMosaic.Lib.Tactic
public import Idealize.ShloMosaic.Lib.Pipeline.Value
public import Idealize.ShloMosaic.Lib.Pipeline.ValueKit

@[expose] public section

set_option maxRecDepth 16384

noncomputable section

namespace Cert.Kern

open Cert.KernelIdeal Cert.KernelIdeal.Gen
open Idealize.ShloMosaic Idealize.ShloMosaic.TcCoe
open Idealize.SL Idealize.SL.Sem

/-- Every lane's number in its chunk. -/
def lane : FVec Ideal S128x214x128 .f32 := sitofp .f32 (iota .tc S128x214x128 32 [2] iota_S128x214x128_d2_w32)

/-- Every lane's chunk. -/
def chunkNo : FVec Ideal S128x214x128 .f32 := sitofp .f32 (iota .tc S128x214x128 32 [1] iota_S128x214x128_d1_w32)

/-- The greatest value of every chunk. -/
def top1 (s : FVec Ideal S128x214x128 .f32) : FVec Ideal S128x214x1 .f32 :=
  shapeCast S128x214x1 (multiReduction .maximumf [2] S128x214 s 0xFF800000#32 reduces_S128x214x128_S128x214 (.inl rfl) rfl)
    shapeCasts_S128x214_S128x214x1

/-- The first lane of every chunk that holds its greatest value. -/
def pos1 (s : FVec Ideal S128x214x128 .f32) : FVec Ideal S128x214x1 .f32 :=
  shapeCast S128x214x1 (multiReduction .minimumf [2] S128x214
    (select (cmpf .oeq s (broadcastTo S128x214x128 (top1 s) broadcasts_S128x214x1_S128x214x128)) lane
      (broadcast S128x214x128 (Scalar.ofBits .f32 0x4E6E6B28#32)))
    0x7F800000#32 reduces_S128x214x128_S128x214 (.inl rfl) rfl) shapeCasts_S128x214_S128x214x1

/-- The chunks with that lane overwritten by `-1`. -/
def drop1 (s : FVec Ideal S128x214x128 .f32) : FVec Ideal S128x214x128 .f32 :=
  select (cmpf .oeq lane (broadcastTo S128x214x128 (pos1 s) broadcasts_S128x214x1_S128x214x128))
    (broadcast S128x214x128 (Scalar.ofBits .f32 0xBF800000#32)) s

/-- The chunks after `r` rounds. -/
def chunks (x : FVec Ideal S128x214x128 .f32) : ℕ → FVec Ideal S128x214x128 .f32
  | 0 => shapeCast S128x214x128 x shapeCasts_S128x214x128_S128x214x128
  | r + 1 => drop1 (chunks x r)

/-- The value a round takes from every chunk. -/
def roundVal (s : FVec Ideal S128x214x128 .f32) : FVec Ideal S128x214 .f32 :=
  shapeCast S128x214 (top1 s) shapeCasts_S128x214x1_S128x214

/-- The flat position a round takes from every chunk: its lane, and 128 for every chunk before it. -/
def roundPos (s : FVec Ideal S128x214x128 .f32) : FVec Ideal S128x214 .f32 :=
  addf (shapeCast S128x214 (pos1 s) shapeCasts_S128x214x1_S128x214)
    (mulf (broadcast S128x214 (Scalar.ofBits .f32 0x43000000#32))
      (shapeCast S128x214 (extractStridedSlice S128x214x1 ![0, 0, 0] chunkNo slices_S128x214x128_o0_0_0_S128x214x1)
        shapeCasts_S128x214x1_S128x214))

/-- A round's results of every chunk, with two columns of a constant behind them. -/
def padded (k : BitVec 32) (s : FVec Ideal S128x214 .f32) : FVec Ideal S128x216 .f32 :=
  concatenate S128x216 1 [⟨S128x214, s⟩, ⟨S128x2, broadcast S128x2 (Scalar.ofBits (F := Ideal) .f32 k)⟩]
    concatenates_S128x214_S128x2_S128x216_d1

/-- Sixteen rounds' results side by side. -/
def joined (f : ℕ → FVec Ideal S128x216 .f32) : FVec Ideal S128x3456 .f32 :=
  concatenate S128x3456 1 [⟨S128x216, f 0⟩, ⟨S128x216, f 1⟩, ⟨S128x216, f 2⟩, ⟨S128x216, f 3⟩, ⟨S128x216, f 4⟩,
    ⟨S128x216, f 5⟩, ⟨S128x216, f 6⟩, ⟨S128x216, f 7⟩, ⟨S128x216, f 8⟩, ⟨S128x216, f 9⟩, ⟨S128x216, f 10⟩,
    ⟨S128x216, f 11⟩, ⟨S128x216, f 12⟩, ⟨S128x216, f 13⟩, ⟨S128x216, f 14⟩, ⟨S128x216, f 15⟩]
    concatenates_S128x216_S128x216_S128x216_S128x216_S128x216_S128x216_S128x216_S128x216_S128x216_S128x216_S128x216_S128x216_S128x216_S128x216_S128x216_S128x216_S128x3456_d1

/-- The values of all candidates. -/
def candVal (x : FVec Ideal S128x214x128 .f32) : FVec Ideal S128x3456 .f32 :=
  joined fun r => padded 0xBF800000#32 (roundVal (chunks x r))

/-- The flat positions of all candidates. -/
def candPos (x : FVec Ideal S128x214x128 .f32) : FVec Ideal S128x3456 .f32 :=
  joined fun r => padded 0xC0000000#32 (roundPos (chunks x r))

/-- What one trip of the second phase carries: the candidates left, the values found, the positions found. -/
abbrev Carry := FVec Ideal S128x3456 .f32 × FVec Ideal S128x304 .f32 × FVec Ideal S128x304 .f32

/-- The greatest candidate left of every row. -/
def top2 (a : FVec Ideal S128x3456 .f32) : FVec Ideal S128x1 .f32 :=
  shapeCast S128x1 (multiReduction .maximumf [1] S128 a 0xFF800000#32 reduces_S128x3456_S128 (.inl rfl) rfl)
    shapeCasts_S128_S128x1

/-- The smallest flat position among the candidates `p` that hold the greatest value. -/
def pos2 (p a : FVec Ideal S128x3456 .f32) : FVec Ideal S128x1 .f32 :=
  shapeCast S128x1 (multiReduction .minimumf [1] S128
    (select (cmpf .oeq a (broadcastTo S128x3456 (top2 a) broadcasts_S128x1_S128x3456)) p
      (broadcast S128x3456 (Scalar.ofBits .f32 0x4E6E6B28#32)))
    0x7F800000#32 reduces_S128x3456_S128 (.inl rfl) rfl) shapeCasts_S128_S128x1

/-- The candidates with those of that position overwritten by `-1`. -/
def drop2 (p a : FVec Ideal S128x3456 .f32) : FVec Ideal S128x3456 .f32 :=
  select (cmpf .oeq p (broadcastTo S128x3456 (pos2 p a) broadcasts_S128x1_S128x3456))
    (broadcast S128x3456 (Scalar.ofBits .f32 0xBF800000#32)) a

/-- One in column `k`, zero elsewhere. -/
def column (k : Fin k0_t1_loop.trips) : FVec Ideal S128x304 .f32 :=
  broadcastTo S128x304 (sitofp .f32 (extui 32 (cmpi .eq (iota .tc S1x304 32 [1] iota_S1x304_d1_w32)
    (broadcast S1x304 (Scf.iv 0#32 1#32 k))) natLt_1_32) : FVec Ideal S1x304 .f32) broadcasts_S1x304_S128x304

/-- One trip of the second phase over candidates at positions `p`. -/
def trip (p : FVec Ideal S128x3456 .f32) (k : Fin k0_t1_loop.trips) (s : Carry) : Carry :=
  (drop2 p s.1,
   addf s.2.1 (mulf (broadcastTo S128x304 (top2 s.1) broadcasts_S128x1_S128x304) (column k)),
   addf s.2.2 (mulf (broadcastTo S128x304 (pos2 p s.1) broadcasts_S128x1_S128x304) (column k)))

/-- The second phase. -/
def found (x : FVec Ideal S128x214x128 .f32) : Carry :=
  Scf.fold (trip (candPos x)) (candVal x, broadcast S128x304 (Scalar.ofBits .f32 0x00000000#32),
    broadcast S128x304 (Scalar.ofBits .f32 0x00000000#32))

/-- Every query's flat position, as a word. -/
def flat (x : FVec Ideal S128x214x128 .f32) : IVec S128x304 32 := fptosi 32 (found x).2.2

/-- One word over the array of queries. -/
def words (k : BitVec 32) : IVec S128x304 32 := broadcast S128x304 k

/-- The floor division by 91, as the kernel spells it. -/
def floorDiv (y : IVec S128x304 32) : IVec S128x304 32 :=
  select (andi
      (cmpi .ne (subi (extui 32 (cmpi .sgt y (words 0#32)) natLt_1_32) (extui 32 (cmpi .slt y (words 0#32)) natLt_1_32))
        (words (Scalar.subi (Scalar.extui (Scalar.cmpi .sgt 91#32 0#32)) (Scalar.extui (Scalar.cmpi .slt 91#32 0#32)))))
      (cmpi .ne (remsi y (words 91#32)) (words 0#32)))
    (subi (divsi y (words 91#32)) (words 1#32)) (divsi y (words 91#32))

/-- Every query's box number. -/
def boxNo (x : FVec Ideal S128x214x128 .f32) : IVec S128x304 32 := floorDiv (flat x)

/-- Every query's class. -/
def classNo (x : FVec Ideal S128x214x128 .f32) : IVec S128x304 32 := subi (flat x) (muli (boxNo x) (words 91#32))

/-- The box numbers kept between 0 and 299. -/
def clampedNo (y : IVec S128x304 32) : IVec S128x304 32 := minsi (words 299#32) (maxsi (words 0#32) y)

/-- Half of a box's length. -/
def halfLen (x2 : FVec Ideal S128x384 .f32) : FVec Ideal S128x384 .f32 :=
  mulf (broadcast S128x384 (Scalar.ofBits .f32 0x3F000000#32)) (shapeCast S128x384 x2 shapeCasts_S128x384_S128x384)

/-- A box's start: its centre less half its length. -/
def startOf (x1 x2 : FVec Ideal S128x384 .f32) : FVec Ideal S128x384 .f32 :=
  subf (shapeCast S128x384 x1 shapeCasts_S128x384_S128x384) (halfLen x2)

/-- A box's end: its centre plus half its length. -/
def endOf (x1 x2 : FVec Ideal S128x384 .f32) : FVec Ideal S128x384 .f32 :=
  addf (shapeCast S128x384 x1 shapeCasts_S128x384_S128x384) (halfLen x2)

/-- A box's edge kept between 0 and 1, times the row's scale. -/
def scaled (e : FVec Ideal S128x384 .f32) (x4 : FVec Ideal S128x1 .f32) : FVec Ideal S128x384 .f32 :=
  mulf (minimumf (broadcast S128x384 (Scalar.ofBits .f32 0x3F800000#32))
      (maximumf (broadcast S128x384 (Scalar.ofBits .f32 0x00000000#32)) e))
    (broadcastTo S128x384 (shapeCast S128x1 x4 shapeCasts_S128x1_S128x1) broadcasts_S128x1_S128x384)

/-- For sixteen queries from the `o`-th: the entry of `e` at the query's box, as a product with a one-hot row. -/
def picked (y : IVec S128x304 32) (e : FVec Ideal S128x384 .f32) (o : ℕ) (h : S128x304.Slices ![0, o] S128x16) :
    FVec Ideal S128x16 .f32 :=
  matmul dot_S128x16x384_S128x384_S128x16_2_1_1_n_0_0 (some .fp32)
    (sitofp .f32 (extui 32 (cmpi .eq
      (broadcastTo S128x16x384 (shapeCast S128x16x1 (extractStridedSlice S128x16 ![0, o] y h) shapeCasts_S128x16_S128x16x1)
        broadcasts_S128x16x1_S128x16x384)
      (iota .tc S128x16x384 32 [2] iota_S128x16x384_d2_w32)) natLt_1_32)) e (constant S128x16 .f32 0x00000000#32)

/-- The picked entries of all queries. -/
def gathered (y : IVec S128x304 32) (e : FVec Ideal S128x384 .f32) : FVec Ideal S128x304 .f32 :=
  concatenate S128x304 1 [⟨S128x16, picked y e 0 slices_S128x304_o0_0_S128x16⟩,
    ⟨S128x16, picked y e 16 slices_S128x304_o0_16_S128x16⟩,
    ⟨S128x16, picked y e 32 slices_S128x304_o0_32_S128x16⟩,
    ⟨S128x16, picked y e 48 slices_S128x304_o0_48_S128x16⟩,
    ⟨S128x16, picked y e 64 slices_S128x304_o0_64_S128x16⟩,
    ⟨S128x16, picked y e 80 slices_S128x304_o0_80_S128x16⟩,
    ⟨S128x16, picked y e 96 slices_S128x304_o0_96_S128x16⟩,
    ⟨S128x16, picked y e 112 slices_S128x304_o0_112_S128x16⟩,
    ⟨S128x16, picked y e 128 slices_S128x304_o0_128_S128x16⟩,
    ⟨S128x16, picked y e 144 slices_S128x304_o0_144_S128x16⟩,
    ⟨S128x16, picked y e 160 slices_S128x304_o0_160_S128x16⟩,
    ⟨S128x16, picked y e 176 slices_S128x304_o0_176_S128x16⟩,
    ⟨S128x16, picked y e 192 slices_S128x304_o0_192_S128x16⟩,
    ⟨S128x16, picked y e 208 slices_S128x304_o0_208_S128x16⟩,
    ⟨S128x16, picked y e 224 slices_S128x304_o0_224_S128x16⟩,
    ⟨S128x16, picked y e 240 slices_S128x304_o0_240_S128x16⟩,
    ⟨S128x16, picked y e 256 slices_S128x304_o0_256_S128x16⟩,
    ⟨S128x16, picked y e 272 slices_S128x304_o0_272_S128x16⟩,
    ⟨S128x16, picked y e 288 slices_S128x304_o0_288_S128x16⟩]
    concatenates_S128x16_S128x16_S128x16_S128x16_S128x16_S128x16_S128x16_S128x16_S128x16_S128x16_S128x16_S128x16_S128x16_S128x16_S128x16_S128x16_S128x16_S128x16_S128x16_S128x304_d1

/-- The greatest entry of every row. -/
def greatest (x3 : FVec Ideal S128x384 .f32) : FVec Ideal S128x1 .f32 :=
  shapeCast S128x1 (multiReduction .maximumf [1] S128 (shapeCast S128x384 x3 shapeCasts_S128x384_S128x384) 0xFF800000#32
    reduces_S128x384_S128 (.inl rfl) rfl) shapeCasts_S128_S128x1

/-- The sequence length: the first place that holds the greatest entry, and at least 1. -/
def seqLen (x3 : FVec Ideal S128x384 .f32) : IVec S128x1 32 :=
  maxsi (shapeCast S128x1 (multiReductionI .minsi [1] S128
    (select (cmpf .oeq (shapeCast S128x384 x3 shapeCasts_S128x384_S128x384)
        (broadcastTo S128x384 (greatest x3) broadcasts_S128x1_S128x384))
      (iota .tc S128x384 32 [1] iota_S128x384_d1_w32) (broadcast S128x384 1073741824#32)) 2147483647#32
    reduces_S128x384_S128 rfl) shapeCasts_S128_S128x1) (broadcast S128x1 1#32)

/-! ## Before and after the blocks -/

/-- The logistic function of every class score, a row's scores side by side. -/
def scores (a0 : FVec Ideal S128x300x91 .f32) : FVec Ideal S128x27300 .f32 :=
  Host.divf (broadcastInDim S128x27300 ![] bcast_S_S128x27300 (constant S_ .f32 0x3F800000#32))
    (addf (broadcastInDim S128x27300 ![] bcast_S_S128x27300 (constant S_ .f32 0x3F800000#32))
      (Host.exp (Host.negf (shapeCast S128x27300 a0 shapeCasts_S128x300x91_S128x27300))))

/-- The scores in chunks of 128, the last one filled up with `-1`. -/
def chunked (a0 : FVec Ideal S128x300x91 .f32) : FVec Ideal S128x214x128 .f32 :=
  shapeCast S128x214x128 (pad S128x27392 ![0, 0] ![0, 92] ![0, 0] (scores a0) (constant (F := Ideal) S_ .f32 0xBF800000#32)
    pads_S128x27300_S128x27392_000_0920 h_S_) shapeCasts_S128x27392_S128x214x128

/-- A column of box coordinates filled up with zeros. -/
def filled (x : FVec Ideal S128x300 .f32) : FVec Ideal S128x384 .f32 :=
  pad S128x384 ![0, 0] ![0, 84] ![0, 0] x (sitofp (F := Ideal) .f32 (constantI S_ 32 0#32)) pads_S128x300_S128x384_000_0840 h_S_

/-- The centres of the boxes. -/
def centres (a1 : FVec Ideal S128x300x2 .f32) : FVec Ideal S128x384 .f32 :=
  filled (shapeCast S128x300 (extractStridedSlice S128x300x1 ![0, 0, 0] a1 slices_S128x300x2_S128x300x1_0_0_0)
    shapeCasts_S128x300x1_S128x300)

/-- The lengths of the boxes. -/
def lengths (a1 : FVec Ideal S128x300x2 .f32) : FVec Ideal S128x384 .f32 :=
  filled (shapeCast S128x300 (extractStridedSlice S128x300x1 ![0, 0, 1] a1 slices_S128x300x2_S128x300x1_0_0_1)
    shapeCasts_S128x300x1_S128x300)

/-- The counts, filled up with `-∞`. -/
def counts (a3 : FVec Ideal S128x301 .f32) : FVec Ideal S128x384 .f32 :=
  pad S128x384 ![0, 0] ![0, 83] ![0, 0] a3 (constant (F := Ideal) S_ .f32 0xFF800000#32) pads_S128x301_S128x384_000_0830 h_S_

/-- The scale of every row as a column. -/
def scaleCol (a2 : FVec Ideal S128 .f32) : FVec Ideal S128x1 .f32 := broadcastInDim S128x1 ![0] bcast_S128_S128x1_0 a2

/-- The first 300 of 304 columns. -/
def first300 {α : Type} (x : S128x304.Idx → α) : S128x300.Idx → α :=
  extractStridedSlice S128x300 ![0, 0] x slices_S128x304_S128x300_0_0

/-- The first 300 of 384 columns. -/
def first300' {α : Type} (x : S128x384.Idx → α) : S128x300.Idx → α :=
  extractStridedSlice S128x300 ![0, 0] x slices_S128x384_S128x300_0_0

/-- Two arrays of box edges side by side. -/
def paired (x y : FVec Ideal S128x300 .f32) : FVec Ideal S128x300x2 .f32 :=
  concatenate S128x300x2 2
    [⟨S128x300x1, broadcastInDim S128x300x1 ![0, 1] bcast_S128x300_S128x300x1_0_1 x⟩,
     ⟨S128x300x1, broadcastInDim S128x300x1 ![0, 1] bcast_S128x300_S128x300x1_0_1 y⟩]
    concatenates_S128x300x1_S128x300x1_S128x300x2_d2

/-- The scores returned. -/
def outScores (a0 : FVec Ideal S128x300x91 .f32) : FVec Ideal S128x300 .f32 := first300 (found (chunked a0)).2.1

/-- The labels returned. -/
def outLabels (a0 : FVec Ideal S128x300x91 .f32) : IVec S128x300 32 := first300 (classNo (chunked a0))

/-- The box numbers returned. -/
def outTops (a0 : FVec Ideal S128x300x91 .f32) : IVec S128x300 32 := first300 (boxNo (chunked a0))

/-- The picked boxes returned. -/
def outBoxes (a0 : FVec Ideal S128x300x91 .f32) (a1 : FVec Ideal S128x300x2 .f32) (a2 : FVec Ideal S128 .f32) :
    FVec Ideal S128x300x2 .f32 :=
  paired
    (first300 (gathered (clampedNo (boxNo (chunked a0))) (scaled (startOf (centres a1) (lengths a1)) (scaleCol a2))))
    (first300 (gathered (clampedNo (boxNo (chunked a0))) (scaled (endOf (centres a1) (lengths a1)) (scaleCol a2))))

/-- All boxes, returned as they are. -/
def outRaw (a1 : FVec Ideal S128x300x2 .f32) : FVec Ideal S128x300x2 .f32 :=
  paired (first300' (startOf (centres a1) (lengths a1))) (first300' (endOf (centres a1) (lengths a1)))

/-- The sequence lengths returned. -/
def outLens (a3 : FVec Ideal S128x301 .f32) : IVec S128 32 := shapeCast S128 (seqLen (counts a3)) shapeCasts_S128x1_S128

end Cert.Kern

end
-- ==== Proof.Blocks.lean ====
/-
  What the kernel's run writes into the blocks of its results: the stages of `Proof.Stages`, applied to the blocks it reads.
-/
module

public import proofs.«01_k».proof.Proof.Stages

@[expose] public section

set_option maxRecDepth 16384

noncomputable section

namespace Cert.Kern

open Cert.KernelIdeal Cert.KernelIdeal.Gen
open Idealize.ShloMosaic Idealize.ShloMosaic.TcCoe
open Idealize.SL Idealize.SL.Sem

variable (c : Dev nD) (arg0 : Memref sig .tc .vmem S128x214x128 .f32) (harg0 : arg0.IsWhole) (arg1 : Memref sig .tc .vmem S128x384 .f32) (harg1 : arg1.IsWhole) (arg2 : Memref sig .tc .vmem S128x384 .f32) (harg2 : arg2.IsWhole) (arg3 : Memref sig .tc .vmem S128x384 .f32) (harg3 : arg3.IsWhole) (arg4 : Memref sig .tc .vmem S128x1 .f32) (harg4 : arg4.IsWhole) (arg5 : Memref sig .tc .vmem S128x304 .f32) (harg5 : arg5.IsWhole) (arg6 : Memref sig .tc .vmem S128x304 .i32) (harg6 : arg6.IsWhole) (arg7 : Memref sig .tc .vmem S128x304 .i32) (harg7 : arg7.IsWhole) (arg8 : Memref sig .tc .vmem S128x304 .f32) (harg8 : arg8.IsWhole) (arg9 : Memref sig .tc .vmem S128x304 .f32) (harg9 : arg9.IsWhole) (arg10 : Memref sig .tc .vmem S128x384 .f32) (harg10 : arg10.IsWhole) (arg11 : Memref sig .tc .vmem S128x384 .f32) (harg11 : arg11.IsWhole) (arg12 : Memref sig .tc .vmem S128x1 .i32) (harg12 : arg12.IsWhole) (x0 : Vec Ideal S128x214x128 .f32) (x1 : Vec Ideal S128x384 .f32) (x2 : Vec Ideal S128x384 .f32) (x3 : Vec Ideal S128x384 .f32) (x4 : Vec Ideal S128x1 .f32)

/-- The scores written are those the second phase found. -/
theorem out5 : out0_A_5 c arg0 harg0 arg1 harg1 arg2 harg2 arg3 harg3 arg4 harg4 arg5 harg5 arg6 harg6 arg7 harg7 arg8 harg8 arg9 harg9 arg10 harg10 arg11 harg11 arg12 harg12 x0 x1 x2 x3 x4 = (found x0).2.1 := by
  frame_out
  rfl

/-- The labels written are the classes. -/
theorem out6 : out0_A_6 c arg0 harg0 arg1 harg1 arg2 harg2 arg3 harg3 arg4 harg4 arg5 harg5 arg6 harg6 arg7 harg7 arg8 harg8 arg9 harg9 arg10 harg10 arg11 harg11 arg12 harg12 x0 x1 x2 x3 x4 = classNo x0 := by
  frame_out
  rfl

/-- The box numbers written are those of the flat positions found. -/
theorem out7 : out0_A_7 c arg0 harg0 arg1 harg1 arg2 harg2 arg3 harg3 arg4 harg4 arg5 harg5 arg6 harg6 arg7 harg7 arg8 harg8 arg9 harg9 arg10 harg10 arg11 harg11 arg12 harg12 x0 x1 x2 x3 x4 = boxNo x0 := by
  frame_out
  rfl

/-- The starts written are those of the boxes picked. -/
theorem out8 : out0_A_8 c arg0 harg0 arg1 harg1 arg2 harg2 arg3 harg3 arg4 harg4 arg5 harg5 arg6 harg6 arg7 harg7 arg8 harg8 arg9 harg9 arg10 harg10 arg11 harg11 arg12 harg12 x0 x1 x2 x3 x4 = gathered (clampedNo (boxNo x0)) (scaled (startOf x1 x2) x4) := by
  frame_out
  rfl

/-- The ends written are those of the boxes picked. -/
theorem out9 : out0_A_9 c arg0 harg0 arg1 harg1 arg2 harg2 arg3 harg3 arg4 harg4 arg5 harg5 arg6 harg6 arg7 harg7 arg8 harg8 arg9 harg9 arg10 harg10 arg11 harg11 arg12 harg12 x0 x1 x2 x3 x4 = gathered (clampedNo (boxNo x0)) (scaled (endOf x1 x2) x4) := by
  frame_out
  rfl

/-- The starts of all boxes, as written. -/
theorem out10 : out0_A_10 c arg0 harg0 arg1 harg1 arg2 harg2 arg3 harg3 arg4 harg4 arg5 harg5 arg6 harg6 arg7 harg7 arg8 harg8 arg9 harg9 arg10 harg10 arg11 harg11 arg12 harg12 x0 x1 x2 x3 x4 = startOf x1 x2 := by
  frame_out
  rfl

/-- The ends of all boxes, as written. -/
theorem out11 : out0_A_11 c arg0 harg0 arg1 harg1 arg2 harg2 arg3 harg3 arg4 harg4 arg5 harg5 arg6 harg6 arg7 harg7 arg8 harg8 arg9 harg9 arg10 harg10 arg11 harg11 arg12 harg12 x0 x1 x2 x3 x4 = endOf x1 x2 := by
  frame_out
  rfl

/-- The sequence lengths, as written. -/
theorem out12 : out0_A_12 c arg0 harg0 arg1 harg1 arg2 harg2 arg3 harg3 arg4 harg4 arg5 harg5 arg6 harg6 arg7 harg7 arg8 harg8 arg9 harg9 arg10 harg10 arg11 harg11 arg12 harg12 x0 x1 x2 x3 x4 = seqLen x3 := by
  frame_out
  rfl

end Cert.Kern

end
-- ==== Proof.Run.lean ====
/-
  The kernel's run: it ends with its six results holding the stages' functions of its four arguments, and leaves those alone.
-/
module

public import proofs.«01_k».proof.Proof.Blocks

@[expose] public section

set_option maxRecDepth 16384
set_option maxHeartbeats 1600000

noncomputable section

namespace Cert.Kern

open Cert.KernelIdeal Cert.KernelIdeal.Gen
open Idealize.ShloMosaic Idealize.ShloMosaic.TcCoe
open Idealize.SL Idealize.SL.Sem

/-- The place of an entry in its array, for a block that starts at 0. -/
theorem place (n k : ℕ) : 0 * n + 1 * k = k := by omega

variable (m : (ℓ : Loc nD τ sig) → Buf (Elt Ideal) ℓ) (g : Dev nD → PrngReg) (c : Dev nD)

/-! ## The blocks read are the whole arrays -/

/-- Each of the five blocks read is the whole array that the host code made of the arguments. -/
theorem blocks_read (t) : iblk m c 0 t = chunked (m ((c.tc : Thread nD τ).loc main_arg0))
    ∧ iblk m c 1 t = centres (m ((c.tc : Thread nD τ).loc main_arg1))
    ∧ iblk m c 2 t = lengths (m ((c.tc : Thread nD τ).loc main_arg1))
    ∧ iblk m c 3 t = counts (m ((c.tc : Thread nD τ).loc main_arg3))
    ∧ iblk m c 4 t = scaleCol (m ((c.tc : Thread nD τ).loc main_arg2)) := by
  refine ⟨(funext fun j => congrArg (V m c main_v8) (funext fun a => Fin.ext (place _ (j a).val))).trans ?_,
    (funext fun j => congrArg (V m c main_v11) (funext fun a => Fin.ext (place _ (j a).val))).trans ?_,
    (funext fun j => congrArg (V m c main_v14) (funext fun a => Fin.ext (place _ (j a).val))).trans ?_,
    (funext fun j => congrArg (V m c main_v15) (funext fun a => Fin.ext (place _ (j a).val))).trans ?_,
    (funext fun j => congrArg (V m c main_v16) (funext fun a => Fin.ext (place _ (j a).val))).trans ?_⟩
  all_goals
    entry_read
    try simp -implicitDefEqProofs only [StableHlo.TRef.toBuf, StableHlo.TRef.ofBuf, cast_cast, cast_eq, id_eq]
    rfl

/-! ## The blocks written are the whole arrays -/

/-- Each of the eight arrays written ends as the stage's value on what the host code made of the arguments. -/
theorem arrays_written : (dats m 0 c).arrAt 5 cfg0.N = (found (chunked (m ((c.tc : Thread nD τ).loc main_arg0)))).2.1
    ∧ (dats m 0 c).arrAt 6 cfg0.N = classNo (chunked (m ((c.tc : Thread nD τ).loc main_arg0)))
    ∧ (dats m 0 c).arrAt 7 cfg0.N = boxNo (chunked (m ((c.tc : Thread nD τ).loc main_arg0)))
    ∧ (dats m 0 c).arrAt 8 cfg0.N = gathered (clampedNo (boxNo (chunked (m ((c.tc : Thread nD τ).loc main_arg0))))) (scaled (startOf (centres (m ((c.tc : Thread nD τ).loc main_arg1))) (lengths (m ((c.tc : Thread nD τ).loc main_arg1)))) (scaleCol (m ((c.tc : Thread nD τ).loc main_arg2))))
    ∧ (dats m 0 c).arrAt 9 cfg0.N = gathered (clampedNo (boxNo (chunked (m ((c.tc : Thread nD τ).loc main_arg0))))) (scaled (endOf (centres (m ((c.tc : Thread nD τ).loc main_arg1))) (lengths (m ((c.tc : Thread nD τ).loc main_arg1)))) (scaleCol (m ((c.tc : Thread nD τ).loc main_arg2))))
    ∧ (dats m 0 c).arrAt 10 cfg0.N = startOf (centres (m ((c.tc : Thread nD τ).loc main_arg1))) (lengths (m ((c.tc : Thread nD τ).loc main_arg1)))
    ∧ (dats m 0 c).arrAt 11 cfg0.N = endOf (centres (m ((c.tc : Thread nD τ).loc main_arg1))) (lengths (m ((c.tc : Thread nD τ).loc main_arg1)))
    ∧ (dats m 0 c).arrAt 12 cfg0.N = seqLen (counts (m ((c.tc : Thread nD τ).loc main_arg3))) := by
  refine ⟨(dats m 0 c).arrAt_eq_of_covers 5 _ (by decide +kernel) fun t _ y => ?_,
    (dats m 0 c).arrAt_eq_of_covers 6 _ (by decide +kernel) fun t _ y => ?_,
    (dats m 0 c).arrAt_eq_of_covers 7 _ (by decide +kernel) fun t _ y => ?_,
    (dats m 0 c).arrAt_eq_of_covers 8 _ (by decide +kernel) fun t _ y => ?_,
    (dats m 0 c).arrAt_eq_of_covers 9 _ (by decide +kernel) fun t _ y => ?_,
    (dats m 0 c).arrAt_eq_of_covers 10 _ (by decide +kernel) fun t _ y => ?_,
    (dats m 0 c).arrAt_eq_of_covers 11 _ (by decide +kernel) fun t _ y => ?_,
    (dats m 0 c).arrAt_eq_of_covers 12 _ (by decide +kernel) fun t _ y => ?_⟩
  all_goals
    blk_simp
    obtain ⟨h0, h1, h2, h3, h4⟩ := blocks_read m c t
    simp only [after0_5, after0_6, after0_7, after0_8, after0_9, after0_10, after0_11, after0_12, outsAt0]
    simp only [out5, out6, out7, out8, out9, out10, out11, out12, h0, h1, h2, h3, h4]
    exact congrArg _ (funext fun a => Fin.ext (place _ (y a).val).symm)

/-! ## The run -/

/-- The windows have different arrays. -/
theorem arrRef_injective : Function.Injective (Pipeline.arrRef spec0) := by decide

/-- What the region leaves in a window's array. -/
theorem left_in (w : Fin 13) : Pipeline.withArrays (cfgs 0).spec c (V0 m c) (fun w => (dats m 0 c).arrAt w (cfgs 0).N)
    (Proc.tc.devRef (Pipeline.arrRef spec0 w)) = (dats m 0 c).arrAt w cfg0.N :=
  Pipeline.withArrays_arr spec0 arrRef_injective c _ _ w

/-- From any memory the kernel ends with its six results holding these functions of its arguments, which it leaves alone. -/
theorem run : θ_run (defs (F := Ideal)) (onTc (τ := τ) (main (F := Ideal))) ⟨m, fun _ => 0, g⟩ (fun r => ∀ c : Dev nD,
    r.2.mem ((c.tc : Thread nD τ).loc main_v18) = outScores (m ((c.tc : Thread nD τ).loc main_arg0))
    ∧ r.2.mem ((c.tc : Thread nD τ).loc main_v19) = outLabels (m ((c.tc : Thread nD τ).loc main_arg0))
    ∧ r.2.mem ((c.tc : Thread nD τ).loc main_v25) = outBoxes (m ((c.tc : Thread nD τ).loc main_arg0)) (m ((c.tc : Thread nD τ).loc main_arg1)) (m ((c.tc : Thread nD τ).loc main_arg2))
    ∧ r.2.mem ((c.tc : Thread nD τ).loc main_v30) = outRaw (m ((c.tc : Thread nD τ).loc main_arg1))
    ∧ r.2.mem ((c.tc : Thread nD τ).loc main_v20) = outTops (m ((c.tc : Thread nD τ).loc main_arg0))
    ∧ r.2.mem ((c.tc : Thread nD τ).loc main_v31) = outLens (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  run_from Gen.run_main m g
  rotate_left 6
  · exact W_main_arg0 m (dats m) c
  · exact W_main_arg1 m (dats m) c
  · exact W_main_arg2 m (dats m) c
  · exact W_main_arg3 m (dats m) c
  all_goals
    unfold Pipeline.afterTail₀
    simp only [hostOps1, List.flatten_cons, List.flatten_nil, List.append_nil]
    after_results
  · exact congrArg first300 ((left_in m c 5).trans (arrays_written m c).1)
  · exact congrArg first300 ((left_in m c 6).trans (arrays_written m c).2.1)
  · exact congrArg₂ (fun x y => paired (first300 x) (first300 y)) ((left_in m c 8).trans (arrays_written m c).2.2.2.1)
      ((left_in m c 9).trans (arrays_written m c).2.2.2.2.1)
  · exact congrArg₂ (fun x y => paired (first300' x) (first300' y)) ((left_in m c 10).trans (arrays_written m c).2.2.2.2.2.1)
      ((left_in m c 11).trans (arrays_written m c).2.2.2.2.2.2.1)
  · exact congrArg first300 ((left_in m c 7).trans (arrays_written m c).2.2.1)
  · exact congrArg (fun x => shapeCast S128 x shapeCasts_S128x1_S128) ((left_in m c 12).trans (arrays_written m c).2.2.2.2.2.2.2)

end Cert.Kern

end
-- ==== Proof.Consts.lean ====
/-
  The constants the two programs share, as extended reals, and a fold of maxima or minima as a supremum or infimum.
-/
module

public import Idealize.ShloMosaic.Lib.Pointwise

@[expose] public section

noncomputable section

namespace Cert.Consts

open Idealize.ShloMosaic

/-- The word of `-∞`. -/
theorem c_bot : Ideal.ofBits .f32 0xFF800000#32 = ⊥ := by simp [Ideal.ofBits, Ideal.ieee]

/-- The word of `+∞`. -/
theorem c_top : Ideal.ofBits .f32 0x7F800000#32 = ⊤ := by simp [Ideal.ofBits, Ideal.ieee]

/-- The word of 0. -/
theorem c_zero : Ideal.ofBits .f32 0x00000000#32 = 0 := by simp [Ideal.ofBits, Ideal.ieee, -EReal.coe_mul]

/-- The word of 1. -/
theorem c_one : Ideal.ofBits .f32 0x3F800000#32 = 1 := by simp [Ideal.ofBits, Ideal.ieee, -EReal.coe_mul]; norm_num

/-- The word of -1. -/
theorem c_neg_one : Ideal.ofBits .f32 0xBF800000#32 = -1 := by
  simp [Ideal.ofBits, Ideal.ieee, -EReal.coe_mul]; norm_num

/-- The word of -2. -/
theorem c_neg_two : Ideal.ofBits .f32 0xC0000000#32 = ((-2 : ℝ) : EReal) := by
  simp [Ideal.ofBits, Ideal.ieee, -EReal.coe_mul]; norm_num

/-- The word of 128. -/
theorem c_128 : Ideal.ofBits .f32 0x43000000#32 = ((128 : ℝ) : EReal) := by
  simp [Ideal.ofBits, Ideal.ieee, -EReal.coe_mul]; norm_num

/-- The number that stands for no position: greater than every position. -/
theorem c_big : Ideal.ofBits .f32 0x4E6E6B28#32 = ((1000000000 : ℝ) : EReal) := by
  simp [Ideal.ofBits, Ideal.ieee, -EReal.coe_mul]; norm_num

variable {ι : Type} (s : Finset ι) (f : ι → EReal)

/-- A fold of maxima from `-∞` is the supremum. -/
theorem fold_max : Finset.fold max (Ideal.ofBits .f32 0xFF800000#32) f s = s.sup f := by rw [c_bot]; rfl

/-- A fold of minima from `+∞` is the infimum. -/
theorem fold_min : Finset.fold min (Ideal.ofBits .f32 0x7F800000#32) f s = s.inf f := by rw [c_top]; rfl

/-- The word of a natural below 2³¹, read as a signed integer, is that natural. -/
theorem toInt_nat (n : ℕ) (h : n < 2 ^ 31) : (BitVec.ofNat 32 n).toInt = (n : ℤ) := by
  rw [BitVec.toInt_eq_toNat_cond, BitVec.toNat_ofNat]
  split_ifs <;> omega

/-- Such a word converted to a number is that natural. -/
theorem sitofp_nat (n : ℕ) (h : n < 2 ^ 31) : FloatOps.sitofp (F := Ideal) .f32 (BitVec.ofNat 32 n) = ((n : ℝ) : EReal) := by
  show (((BitVec.ofNat 32 n).toInt : ℝ) : EReal) = _
  rw [toInt_nat n h]
  norm_cast

/-- An equality of words as a number: one or zero. -/
theorem indicator (x y : BitVec 32) :
    FloatOps.sitofp (F := Ideal) .f32 (BitVec.setWidth 32 (IntOp.cmpi .eq x y)) = if x = y then (1 : EReal) else 0 := by
  show (((BitVec.setWidth 32 (IntOp.cmpi .eq x y)).toInt : ℝ) : EReal) = _
  by_cases h : x = y
  · rw [if_pos h, show BitVec.setWidth 32 (IntOp.cmpi .eq x y) = 1#32 by simp [IntOp.cmpi, h], show (1#32).toInt = 1 by decide]
    norm_num
  · rw [if_neg h, show BitVec.setWidth 32 (IntOp.cmpi .eq x y) = 0#32 by simp [IntOp.cmpi, beq_eq_false_iff_ne.mpr h], show (0#32).toInt = 0 by decide]
    norm_num

/-- Words of naturals below 2³² are equal as the naturals are. -/
theorem word_eq_iff {m n : ℕ} (hm : m < 2 ^ 32) (hn : n < 2 ^ 32) : BitVec.ofNat 32 m = BitVec.ofNat 32 n ↔ m = n := by
  refine ⟨fun h => ?_, fun h => h ▸ rfl⟩
  have := congrArg BitVec.toNat h
  rwa [BitVec.toNat_ofNat, BitVec.toNat_ofNat, Nat.mod_eq_of_lt hm, Nat.mod_eq_of_lt hn] at this

/-- A signed comparison of words of naturals below 2³¹ is that of the naturals. -/
theorem sle_iff {m n : ℕ} (hm : m < 2 ^ 31) (hn : n < 2 ^ 31) :
    IntOp.cmpi .sle (BitVec.ofNat 32 m) (BitVec.ofNat 32 n) = 1#1 ↔ m ≤ n := by
  have e : IntOp.cmpi .sle (BitVec.ofNat 32 m) (BitVec.ofNat 32 n) = BitVec.ofBool (decide (m ≤ n)) := by
    simp only [IntOp.cmpi, BitVec.sle, toInt_nat m hm, toInt_nat n hn, Nat.cast_le]
  rw [e]
  by_cases h : m ≤ n <;> simp [h]

end Cert.Consts

end
-- ==== Proof.Read.lean ====
/-
  The kernel's stages of the first phase read at one element: what a round finds in one chunk, what it leaves, and where a
  round's results stand among the candidates.
-/
module

public import proofs.«01_k».proof.Proof.Stages
public import proofs.«01_k».proof.Proof.Consts

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts

variable (s : FVec Ideal S128x214x128 .f32) (b : Fin 128) (c : Fin 214) (l : Fin 128)

/-- The lane number at a lane is the lane. -/
theorem lane_apply : lane (ix3 b c l) = ((l.val : ℝ) : EReal) := by
  rw [← sitofp_nat _ (by omega)]
  simp only [lane]
  pointwise

/-- A round finds the supremum of a chunk. -/
theorem top1_apply : top1 s (ix3 b c 0) = Finset.univ.sup fun l : Fin 128 => (s (ix3 b c l) : EReal) := by
  simp only [top1, ← fold_max]
  pointwise

/-- The least number among the elements of a chunk that equal a given value, as an infimum. -/
theorem pos1_read (t : FVec Ideal S128x214x1 .f32) (w : FVec Ideal S128x214x128 .f32) :
    shapeCast S128x214x1 (multiReduction .minimumf [2] S128x214
      (select (cmpf .oeq s (broadcastTo S128x214x128 t broadcasts_S128x214x1_S128x214x128)) w
        (broadcast S128x214x128 (Scalar.ofBits .f32 0x4E6E6B28#32)))
      0x7F800000#32 reduces_S128x214x128_S128x214 (.inl rfl) rfl) shapeCasts_S128x214_S128x214x1 (ix3 b c 0)
    = Finset.univ.inf fun l : Fin 128 =>
        if (s (ix3 b c l) : EReal) = t (ix3 b c 0) then (w (ix3 b c l) : EReal) else ((1000000000 : ℝ) : EReal) := by
  rw [← fold_min, ← c_big]
  pointwise

/-- A round finds the least lane that holds the supremum. -/
theorem pos1_apply : pos1 s (ix3 b c 0) = Finset.univ.inf fun l : Fin 128 =>
    if (s (ix3 b c l) : EReal) = Finset.univ.sup (fun l : Fin 128 => (s (ix3 b c l) : EReal)) then ((l.val : ℝ) : EReal)
    else ((1000000000 : ℝ) : EReal) := by
  rw [pos1, pos1_read]
  simp only [top1_apply, lane_apply]

/-- The overwriting of the elements of a given number, read at an element. -/
theorem drop1_read (t : FVec Ideal S128x214x1 .f32) (w : FVec Ideal S128x214x128 .f32) :
    select (cmpf .oeq w (broadcastTo S128x214x128 t broadcasts_S128x214x1_S128x214x128))
      (broadcast S128x214x128 (Scalar.ofBits (F := Ideal) .f32 0xBF800000#32)) s (ix3 b c l)
    = if (w (ix3 b c l) : EReal) = t (ix3 b c 0) then (-1 : EReal) else s (ix3 b c l) := by
  rw [← c_neg_one]
  pointwise

/-- A round overwrites the lane it found by `-1`. -/
theorem drop1_apply : drop1 s (ix3 b c l)
    = if ((l.val : ℝ) : EReal) = pos1 s (ix3 b c 0) then (-1 : EReal) else s (ix3 b c l) := by
  rw [drop1, drop1_read, lane_apply]

/-- A last axis of one element dropped. -/
theorem column1_read (t : FVec Ideal S128x214x1 .f32) :
    shapeCast S128x214 t shapeCasts_S128x214x1_S128x214 (ix2 b c) = t (ix3 b c 0) := by
  pointwise

/-- The values that a round returns are the chunks' maxima. -/
theorem roundVal_apply : roundVal s (ix2 b c) = top1 s (ix3 b c 0) := column1_read b c _

/-- The flat position of a chunk's first element is 128 times the chunk's number. -/
theorem offset_read : mulf (broadcast S128x214 (Scalar.ofBits .f32 0x43000000#32))
      (shapeCast S128x214 (extractStridedSlice S128x214x1 ![0, 0, 0] chunkNo slices_S128x214x128_o0_0_0_S128x214x1)
        shapeCasts_S128x214x1_S128x214) (ix2 b c) = ((128 : ℝ) : EReal) * ((c.val : ℝ) : EReal) := by
  rw [← c_128, ← sitofp_nat c.val (by omega)]
  simp only [chunkNo]
  pointwise

/-- The flat position a round finds: the lane, and 128 for every chunk before. -/
theorem roundPos_apply : roundPos s (ix2 b c) = pos1 s (ix3 b c 0) + ((128 : ℝ) : EReal) * ((c.val : ℝ) : EReal) := by
  rw [roundPos, addf_apply, column1_read, offset_read, Ideal.addf_def]

/-- A round's results with two columns behind them. -/
theorem padded_apply (k : BitVec 32) (s : FVec Ideal S128x214 .f32) (d : Fin 216) :
    padded k s (ix2 b d) = if h : d.val < 214 then s (ix2 b ⟨d.val, h⟩) else Ideal.ofBits .f32 k := by
  simp only [padded]
  pointwise

/-- Candidate `216 r + d` is result `d` of round `r`. -/
theorem joined_apply (f : ℕ → FVec Ideal S128x216 .f32) (r : Fin 16) (d : Fin 216) :
    joined f (ix2 b ⟨216 * r.val + d.val, by omega⟩) = f r (ix2 b d) := by
  refine concatenate_ofFn_apply (t := S128x3456) 1 (fun n : Fin 16 => f n) _ rfl 216 rfl _ r ?_ (ix2 b d) ?_ ?_
  · show (216 * r.val + d.val) / 216 = r.val
    omega
  · show d.val = (216 * r.val + d.val) % 216
    omega
  · intro a ha
    match a with
    | ⟨0, _⟩ => rfl
    | ⟨1, _⟩ => exact absurd rfl ha

end Cert.Kern

end
-- ==== Proof.Rank.lean ====
/-
  Selection by repeated maximum, over extended reals, with no program in sight.

  A finite family of elements carries values `v` and numbers `g`. An element is LIVE when its value is nonnegative.
  Element `j` is BEFORE element `i` when its value is greater, or equal with a smaller number; the RANK of `i` is how many
  live elements are before it. One ROUND takes the greatest value, among the elements that have it the smallest number, and
  overwrites every element of that number by `-1`. The main theorem (`round_max`, `round_min`, `round_next`): after `r` rounds
  exactly the live elements of rank at least `r` are left, so round `r` returns the value and the number of the element of rank `r`.
-/
module

public import Mathlib.Data.EReal.Operations
public import Mathlib.Data.Fintype.Card
public import Mathlib.Data.Finset.Lattice.Fold

@[expose] public section

noncomputable section

namespace Cert.Rank

open Classical

variable {ι : Type} [Fintype ι] (v g : ι → EReal)

/-- `j` is before `i`: a greater value, or the same value and a smaller number. -/
def Before (j i : ι) : Prop := v i < v j ∨ (v j = v i ∧ g j < g i)

/-- The live elements before `i`. -/
def ahead (i : ι) : Finset ι := Finset.univ.filter fun j => 0 ≤ v j ∧ Before v g j i

/-- How many live elements are before `i`. -/
def rank (i : ι) : ℕ := (ahead v g i).card

/-- What a family of values holds after `r` rounds: the live elements of rank at least `r` as they were, `-1` elsewhere. -/
def left (r : ℕ) (i : ι) : EReal := if 0 ≤ v i ∧ r ≤ rank v g i then v i else -1

/-- No element is before itself. -/
theorem Before.irrefl (i : ι) : ¬ Before v g i i := by
  rintro (h | ⟨-, h⟩) <;> exact lt_irrefl _ h

/-- Before is transitive. -/
theorem Before.trans {a b c : ι} (h : Before v g a b) (h' : Before v g b c) : Before v g a c := by
  rcases h with h | ⟨e, h⟩ <;> rcases h' with h' | ⟨e', h'⟩
  · exact Or.inl (h'.trans h)
  · exact Or.inl (e' ▸ h)
  · exact Or.inl (e.symm ▸ h')
  · exact Or.inr ⟨e.trans e', h.trans h'⟩

/-- An element that is live and before another has the smaller rank. -/
theorem rank_lt {j i : ι} (hj : 0 ≤ v j) (h : Before v g j i) : rank v g j < rank v g i := by
  refine Finset.card_lt_card (Finset.ssubset_iff_of_subset ?_ |>.mpr ⟨j, ?_, ?_⟩)
  · intro k hk
    simp only [ahead, Finset.mem_filter, Finset.mem_univ, true_and] at hk ⊢
    exact ⟨hk.1, hk.2.trans v g h⟩
  · simp only [ahead, Finset.mem_filter, Finset.mem_univ, true_and]
    exact ⟨hj, h⟩
  · simp only [ahead, Finset.mem_filter, Finset.mem_univ, true_and, not_and]
    exact fun _ => Before.irrefl v g j

variable {v g}

/-- The numbers tell the live elements from all others. -/
def Numbered (v g : ι → EReal) : Prop := ∀ i j, 0 ≤ v i → g j = g i → j = i

/-- Of two elements, the second of them live, one is before the other. -/
theorem before_or (hg : Numbered v g) {i j : ι} (hi : 0 ≤ v i) (h : j ≠ i) : Before v g j i ∨ Before v g i j := by
  rcases lt_trichotomy (v i) (v j) with h1 | h1 | h1
  · exact Or.inl (Or.inl h1)
  · rcases lt_trichotomy (g i) (g j) with h2 | h2 | h2
    · exact Or.inr (Or.inr ⟨h1, h2⟩)
    · exact absurd (hg i j hi h2.symm) h
    · exact Or.inl (Or.inr ⟨h1.symm, h2⟩)
  · exact Or.inr (Or.inl h1)

/-- Two live elements of one rank are one. -/
theorem rank_inj (hg : Numbered v g) {i j : ι} (hi : 0 ≤ v i) (hj : 0 ≤ v j) (h : rank v g j = rank v g i) : j = i := by
  by_contra hne
  rcases before_or hg hi hne with hb | hb
  · exact absurd h (rank_lt v g hj hb).ne
  · exact absurd h (rank_lt v g hi hb).ne'

/-- Every rank below the number of live elements is taken. -/
theorem exists_rank (hg : Numbered v g) (r : ℕ) (h : r < (Finset.univ.filter fun i => 0 ≤ v i).card) :
    ∃ i, 0 ≤ v i ∧ rank v g i = r := by
  have himg : (Finset.univ.filter fun i => 0 ≤ v i).image (rank v g)
      = Finset.range (Finset.univ.filter fun i => 0 ≤ v i).card := by
    refine Finset.eq_of_subset_of_card_le ?_ ?_
    · intro k hk
      obtain ⟨i, hi, rfl⟩ := Finset.mem_image.mp hk
      rw [Finset.mem_range]
      refine Finset.card_lt_card (Finset.ssubset_iff_of_subset ?_ |>.mpr ⟨i, hi, ?_⟩)
      · intro k hk
        simp only [ahead, Finset.mem_filter, Finset.mem_univ, true_and] at hk ⊢
        exact hk.1
      · simp only [ahead, Finset.mem_filter, Finset.mem_univ, true_and, not_and]
        exact fun _ => Before.irrefl v g i
    · rw [Finset.card_range, Finset.card_image_of_injOn]
      intro a ha b hb hab
      simp only [Finset.coe_filter, Finset.mem_univ, true_and, Set.mem_setOf_eq] at ha hb
      exact rank_inj hg hb ha hab
  have hr : r ∈ (Finset.univ.filter fun i => 0 ≤ v i).image (rank v g) := by rw [himg]; exact Finset.mem_range.mpr h
  obtain ⟨i, hi, e⟩ := Finset.mem_image.mp hr
  exact ⟨i, (Finset.mem_filter.mp hi).2, e⟩

/-- The overwriting value is below 0. -/
theorem neg_one_lt_zero : (-1 : EReal) < 0 := by
  rw [show (0 : EReal) = -0 by simp]; exact EReal.neg_lt_neg_iff.mpr (by exact_mod_cast zero_lt_one)

/-- An overwritten element is not live. -/
theorem not_live_neg_one : ¬ (0 : EReal) ≤ -1 := not_le.mpr neg_one_lt_zero

/-- Of what is left, nothing exceeds the element of rank `r`. -/
theorem left_le (hg : Numbered v g) {i : ι} (hi : 0 ≤ v i) (j : ι) : left v g (rank v g i) j ≤ v i := by
  unfold left
  split_ifs with h
  · by_contra hlt
    exact absurd (rank_lt v g h.1 (Or.inl (not_le.mp hlt))) (not_lt.mpr h.2)
  · exact neg_one_lt_zero.le.trans hi

/-- A live element is still there after as many rounds as its rank. -/
theorem left_self {i : ι} (hi : 0 ≤ v i) : left v g (rank v g i) i = v i := if_pos ⟨hi, le_rfl⟩

/-- The maximum of a round is the value of the element whose rank is the round's number. -/
theorem round_max (hg : Numbered v g) {i : ι} (hi : 0 ≤ v i) : Finset.univ.sup (left v g (rank v g i)) = v i :=
  le_antisymm (Finset.sup_le fun j _ => left_le hg hi j)
    ((left_self hi).symm.le.trans (Finset.le_sup (f := left v g (rank v g i)) (Finset.mem_univ i)))

/-- What is left and has that value is the element itself, or comes after it in number. -/
theorem number_le (hg : Numbered v g) {i : ι} (hi : 0 ≤ v i) {j : ι} (h : left v g (rank v g i) j = v i) : g i ≤ g j := by
  unfold left at h
  split_ifs at h with h'
  · by_contra hlt
    exact absurd (rank_lt v g h'.1 (Or.inr ⟨h, not_le.mp hlt⟩)) (not_lt.mpr h'.2)
  · exact absurd (h ▸ hi) not_live_neg_one

/-- The smallest number among the elements that attain the maximum is that element's. -/
theorem round_min (hg : Numbered v g) {big : EReal} {i : ι} (hi : 0 ≤ v i) (hbig : g i ≤ big) :
    Finset.univ.inf (fun j => if left v g (rank v g i) j = v i then g j else big) = g i := by
  refine le_antisymm ?_ (Finset.le_inf fun j _ => ?_)
  · refine (Finset.inf_le (Finset.mem_univ i)).trans ?_
    rw [if_pos (left_self hi)]
  · split_ifs with h
    · exact number_le hg hi h
    · exact hbig

/-- Overwriting the elements of that number leaves what is left after the round. -/
theorem round_next (hg : Numbered v g) {i : ι} (hi : 0 ≤ v i) (j : ι) :
    (if g j = g i then -1 else left v g (rank v g i) j) = left v g (rank v g i + 1) j := by
  by_cases hj : g j = g i
  · rw [if_pos hj, hg i j hi hj]
    exact (if_neg (fun h => absurd h.2 (by omega))).symm
  · rw [if_neg hj]
    unfold left
    by_cases hl : 0 ≤ v j
    · have hne : rank v g j ≠ rank v g i := fun h => hj (congrArg g (rank_inj hg hi hl h))
      have : rank v g i ≤ rank v g j ↔ rank v g i + 1 ≤ rank v g j := by omega
      simp only [hl, true_and, this]
    · simp only [hl, false_and, if_false]

/-- Before the first round everything is left, where what is not live is `-1`. -/
theorem left_zero (hd : ∀ i, 0 ≤ v i ∨ v i = -1) : left v g 0 = v := by
  funext i
  unfold left
  rcases hd i with h | h
  · exact if_pos ⟨h, Nat.zero_le _⟩
  · rw [if_neg, h]
    rintro ⟨h', -⟩
    exact not_live_neg_one (h ▸ h')

/-- Ranks in a part of a family, listed by `e`: an element all of whose predecessors are in the list has the same rank there. -/
theorem rank_comp {κ : Type} [Fintype κ] (e : κ → ι) (w k : κ → EReal) (c : κ)
    (hw : ∀ a, 0 ≤ w a → v (e a) = w a ∧ g (e a) = k a) (hc : 0 ≤ w c)
    (hinj : ∀ a b, 0 ≤ w a → 0 ≤ w b → e a = e b → a = b)
    (hsurj : ∀ i, 0 ≤ v i → Before v g i (e c) → ∃ a, 0 ≤ w a ∧ e a = i) :
    rank w k c = rank v g (e c) := by
  have hb : ∀ a, 0 ≤ w a → (Before w k a c ↔ Before v g (e a) (e c)) := fun a ha => by
    unfold Before
    rw [(hw a ha).1, (hw a ha).2, (hw c hc).1, (hw c hc).2]
  refine Finset.card_bij (fun a _ => e a) ?_ ?_ ?_
  · intro a ha
    simp only [ahead, Finset.mem_filter, Finset.mem_univ, true_and] at ha ⊢
    exact ⟨(hw a ha.1).1 ▸ ha.1, (hb a ha.1).mp ha.2⟩
  · intro a ha b hb' hab
    simp only [ahead, Finset.mem_filter, Finset.mem_univ, true_and] at ha hb'
    exact hinj a b ha.1 hb'.1 hab
  · intro i hi
    simp only [ahead, Finset.mem_filter, Finset.mem_univ, true_and] at hi
    obtain ⟨a, ha, rfl⟩ := hsurj i hi.1 hi.2
    refine ⟨a, ?_, rfl⟩
    simp only [ahead, Finset.mem_filter, Finset.mem_univ, true_and]
    exact ⟨ha, (hb a ha).mpr hi.2⟩

end Cert.Rank

end
-- ==== Proof.Chunk.lean ====
/-
  The first phase on one chunk: sixteen rounds return, in order, its sixteen first elements.
-/
module

public import proofs.«01_k».proof.Proof.Read
public import proofs.«01_k».proof.Proof.Rank

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts Cert.Rank

/-- The number of a place, as an extended real. -/
def no {n : ℕ} (i : Fin n) : EReal := ((i.val : ℝ) : EReal)

/-- Different places have different numbers. -/
theorem no_inj {n : ℕ} {i j : Fin n} (h : no i = no j) : i = j := by
  unfold no at h
  exact Fin.ext (by exact_mod_cast h)

/-- The values of chunk `c` of row `b`. -/
def chunk (x : FVec Ideal S128x214x128 .f32) (b : Fin 128) (c : Fin 214) (l : Fin 128) : EReal := x (ix3 b c l)

variable (x : FVec Ideal S128x214x128 .f32) (b : Fin 128) (c : Fin 214)

/-- What the first phase needs of a chunk: values that are nonnegative or `-1`, and sixteen nonnegative ones. -/
structure Full : Prop where
  values : ∀ l, 0 ≤ chunk x b c l ∨ chunk x b c l = -1
  live : 16 ≤ (Finset.univ.filter fun l => 0 ≤ chunk x b c l).card

variable {x b c}

/-- The places of a row are numbers that tell its elements apart. -/
theorem numbered {n : ℕ} (v : Fin n → EReal) : Numbered v no := fun _ _ _ h => no_inj h

/-- An element of every rank below sixteen. -/
theorem Full.exists_rank (h : Full x b c) {r : ℕ} (hr : r < 16) : ∃ i, 0 ≤ chunk x b c i ∧ rank (chunk x b c) no i = r :=
  Rank.exists_rank (numbered _) r (hr.trans_le h.live)

/-- No place is greater than the number that stands for no place. -/
theorem no_le_big {n : ℕ} (hn : n ≤ 1000000000) (i : Fin n) : no i ≤ ((1000000000 : ℝ) : EReal) := by
  unfold no
  exact_mod_cast (i.isLt.le.trans hn)

/-- When a chunk holds what is left after `rank i` rounds, the next round finds the value and the lane of `i`. -/
theorem round_at {s : FVec Ideal S128x214x128 .f32} {i : Fin 128} (hi : 0 ≤ chunk x b c i)
    (hs : ∀ l, s (ix3 b c l) = left (chunk x b c) no (rank (chunk x b c) no i) l) :
    top1 s (ix3 b c 0) = chunk x b c i ∧ pos1 s (ix3 b c 0) = no i := by
  have ht : (Finset.univ.sup fun l : Fin 128 => (s (ix3 b c l) : EReal)) = chunk x b c i := by
    simp only [hs]
    exact round_max (numbered _) hi
  refine ⟨(top1_apply s b c).trans ht, (pos1_apply s b c).trans ?_⟩
  rw [ht]
  simp only [hs]
  exact round_min (numbered _) hi (no_le_big (by norm_num) i)

/-- The chunk after `r` rounds holds what is left of it. -/
theorem chunks_apply (h : Full x b c) (r : ℕ) (hr : r ≤ 16) (l : Fin 128) :
    chunks x r (ix3 b c l) = left (chunk x b c) no r l := by
  induction r generalizing l with
  | zero =>
    rw [left_zero h.values, chunks]
    show shapeCast S128x214x128 x _ (ix3 b c l) = x (ix3 b c l)
    pointwise
  | succ r ih =>
    obtain ⟨i, hi, rfl⟩ := h.exists_rank (r := r) (by omega)
    have hs := fun l => ih (by omega) l
    rw [chunks, drop1_apply, (round_at hi hs).2, hs]
    exact round_next (numbered _) hi l

/-- Round `r` returns, of every chunk, the element of rank `r`: its value and its flat position. -/
theorem round_apply (h : Full x b c) {r : ℕ} (hr : r < 16) : ∃ i : Fin 128, 0 ≤ chunk x b c i ∧ rank (chunk x b c) no i = r
    ∧ roundVal (chunks x r) (ix2 b c) = chunk x b c i
    ∧ roundPos (chunks x r) (ix2 b c) = (((128 * c.val + i.val : ℕ) : ℝ) : EReal) := by
  obtain ⟨i, hi, rfl⟩ := h.exists_rank hr
  obtain ⟨h1, h2⟩ := round_at hi fun l => chunks_apply h _ hr.le l
  refine ⟨i, hi, rfl, (roundVal_apply _ b c).trans h1, ?_⟩
  rw [roundPos_apply, h2, no, ← EReal.coe_mul, ← EReal.coe_add]
  push_cast
  rw [add_comm]

end Cert.Kern

end
-- ==== Proof.Scan.lean ====
/-
  The second phase on one row: three hundred trips return, in order, the three hundred first candidates.
-/
module

public import proofs.«01_k».proof.Proof.Chunk

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts Cert.Rank

/-- What holds before every trip of a loop holds of what the loop returns. -/
theorem fold_induct {σ : Type} {n : ℕ} (g : Fin n → σ → σ) (init : σ) (P : ℕ → σ → Prop) (h0 : P 0 init)
    (hs : ∀ (k : Fin n) s, P k.val s → P (k.val + 1) (g k s)) : P n (Scf.fold g init) := by
  have : ∀ m, m ≤ n → P m (((List.finRange n).take m).foldl (fun acc k => g k acc) init) := by
    intro m
    induction m with
    | zero => exact fun _ => h0
    | succ m ih =>
      intro hm
      rw [List.take_succ_eq_append_getElem (by simpa using hm), List.foldl_append, List.getElem_finRange]
      exact hs ⟨m, hm⟩ _ (ih (by omega))
  rw [Scf.fold_eq]
  have h := this n le_rfl
  rwa [List.take_of_length_le (by simp)] at h

section Reads

variable (p a : FVec Ideal S128x3456 .f32) (b : Fin 128)

/-- A trip finds the supremum of the candidates left. -/
theorem top2_apply : top2 a (ix2 b 0) = Finset.univ.sup fun j : Fin 3456 => (a (ix2 b j) : EReal) := by
  simp only [top2, ← fold_max]
  pointwise

/-- The least number among the candidates that equal a given value, as an infimum. -/
theorem pos2_read (t : FVec Ideal S128x1 .f32) :
    shapeCast S128x1 (multiReduction .minimumf [1] S128
      (select (cmpf .oeq a (broadcastTo S128x3456 t broadcasts_S128x1_S128x3456)) p
        (broadcast S128x3456 (Scalar.ofBits .f32 0x4E6E6B28#32)))
      0x7F800000#32 reduces_S128x3456_S128 (.inl rfl) rfl) shapeCasts_S128_S128x1 (ix2 b 0)
    = Finset.univ.inf fun j : Fin 3456 =>
        if (a (ix2 b j) : EReal) = t (ix2 b 0) then (p (ix2 b j) : EReal) else ((1000000000 : ℝ) : EReal) := by
  rw [← fold_min, ← c_big]
  pointwise

/-- A trip finds the least position among the candidates that hold the supremum. -/
theorem pos2_apply : pos2 p a (ix2 b 0) = Finset.univ.inf fun j : Fin 3456 =>
    if (a (ix2 b j) : EReal) = Finset.univ.sup (fun j : Fin 3456 => (a (ix2 b j) : EReal)) then (p (ix2 b j) : EReal)
    else ((1000000000 : ℝ) : EReal) := by
  rw [pos2, pos2_read, top2_apply]

/-- The overwriting of the candidates of a given number, read at a candidate. -/
theorem drop2_read (t : FVec Ideal S128x1 .f32) (j : Fin 3456) :
    select (cmpf .oeq p (broadcastTo S128x3456 t broadcasts_S128x1_S128x3456))
      (broadcast S128x3456 (Scalar.ofBits (F := Ideal) .f32 0xBF800000#32)) a (ix2 b j)
    = if (p (ix2 b j) : EReal) = t (ix2 b 0) then (-1 : EReal) else a (ix2 b j) := by
  rw [← c_neg_one]
  pointwise

/-- A trip overwrites the candidates of the position it found by `-1`. -/
theorem drop2_apply (j : Fin 3456) :
    drop2 p a (ix2 b j) = if (p (ix2 b j) : EReal) = pos2 p a (ix2 b 0) then (-1 : EReal) else a (ix2 b j) := drop2_read p a b _ j

/-- The indicator of a column. -/
theorem column_read (k : Fin k0_t1_loop.trips) (q : Fin 304) : column k (ix2 b q) = if q.val = k.val then (1 : EReal) else 0 := by
  have hk : k.val < 300 := k.isLt
  have e : Scf.iv 0#32 1#32 k.val = BitVec.ofNat 32 k.val := by
    unfold Scf.iv
    simp
  simp only [column]
  rw [e]
  pointwise
  rw [indicator]
  simp only [word_eq_iff (show q.val < 2 ^ 32 by omega) (show k.val < 2 ^ 32 by omega)]

/-- A winner times a one-hot row, added to what was found before, read at a column. -/
theorem adds_read (o : FVec Ideal S128x304 .f32) (t : FVec Ideal S128x1 .f32) (d : FVec Ideal S128x304 .f32) (q : Fin 304) :
    addf o (mulf (broadcastTo S128x304 t broadcasts_S128x1_S128x304) d) (ix2 b q)
      = ((o (ix2 b q) : EReal) + (t (ix2 b 0) : EReal) * (d (ix2 b q) : EReal)) := by
  pointwise

/-- A trip writes what it found to its column of the results, and nothing to the others. -/
theorem adds_apply (o : FVec Ideal S128x304 .f32) (t : FVec Ideal S128x1 .f32) (k : Fin k0_t1_loop.trips) (q : Fin 304)
    (h : k.val ≤ q.val → o (ix2 b q) = (0 : EReal)) :
    addf o (mulf (broadcastTo S128x304 t broadcasts_S128x1_S128x304) (column k)) (ix2 b q)
      = if q.val = k.val then t (ix2 b 0) else o (ix2 b q) := by
  rw [adds_read, column_read]
  split_ifs with hq
  · rw [h hq.symm.le, mul_one, zero_add]
  · rw [mul_zero, add_zero]

end Reads

section Scan

variable (p a : FVec Ideal S128x3456 .f32) (b : Fin 128)

/-- A row of an array. -/
def row (x : FVec Ideal S128x3456 .f32) (b : Fin 128) (j : Fin 3456) : EReal := x (ix2 b j)

/-- What the second phase needs of a row's candidates: values that are nonnegative or `-1`, three hundred nonnegative ones,
    and positions that tell those apart. -/
structure Ready : Prop where
  values : ∀ j, 0 ≤ row a b j ∨ row a b j = -1
  live : 300 ≤ (Finset.univ.filter fun j => 0 ≤ row a b j).card
  numbered : Numbered (row a b) (row p b)
  small : ∀ j, 0 ≤ row a b j → row p b j ≤ ((1000000000 : ℝ) : EReal)

/-- What row `b` of the carry holds before trip `t`. -/
def Scanned (t : ℕ) (s : Carry) : Prop :=
  (∀ j, s.1 (ix2 b j) = left (row a b) (row p b) t j)
  ∧ (∀ q : Fin 304, q.val < t → ∃ j, 0 ≤ row a b j ∧ rank (row a b) (row p b) j = q.val
      ∧ s.2.1 (ix2 b q) = row a b j ∧ s.2.2 (ix2 b q) = row p b j)
  ∧ ∀ q : Fin 304, t ≤ q.val → s.2.1 (ix2 b q) = (0 : EReal) ∧ s.2.2 (ix2 b q) = (0 : EReal)

variable {p a b}

/-- One trip. -/
theorem Scanned.trip (h : Ready p a b) (k : Fin k0_t1_loop.trips) (s : Carry) (hs : Scanned p a b k.val s) :
    Scanned p a b (k.val + 1) (trip p k s) := by
  obtain ⟨h1, h2, h3⟩ := hs
  have hk : k.val < 300 := k.isLt
  obtain ⟨i, hi, hr⟩ := Rank.exists_rank h.numbered k.val (hk.trans_le h.live)
  have ht : top2 s.1 (ix2 b 0) = row a b i := by
    rw [top2_apply]
    simp only [h1]
    rw [← hr]
    exact round_max h.numbered hi
  have hp : pos2 p s.1 (ix2 b 0) = row p b i := by
    rw [pos2_apply, ← top2_apply, ht]
    simp only [h1]
    rw [← hr]
    exact round_min h.numbered hi (h.small i hi)
  refine ⟨fun j => ?_, fun q hq => ?_, fun q hq => ?_⟩
  · show drop2 p s.1 (ix2 b j) = _
    rw [drop2_apply, hp, h1, ← hr]
    exact round_next h.numbered hi j
  · have e1 := adds_apply b s.2.1 (top2 s.1) k q fun hle => (h3 q hle).1
    have e2 := adds_apply b s.2.2 (pos2 p s.1) k q fun hle => (h3 q hle).2
    by_cases hqk : q.val = k.val
    · exact ⟨i, hi, hr.trans hqk.symm, e1.trans ((if_pos hqk).trans ht), e2.trans ((if_pos hqk).trans hp)⟩
    · obtain ⟨j, hj, hjr, hv, hn⟩ := h2 q (by omega)
      exact ⟨j, hj, hjr, e1.trans ((if_neg hqk).trans hv), e2.trans ((if_neg hqk).trans hn)⟩
  · have hqk : ¬ q.val = k.val := by omega
    exact ⟨(adds_apply b s.2.1 (top2 s.1) k q fun hle => (h3 q hle).1).trans ((if_neg hqk).trans (h3 q (by omega)).1),
      (adds_apply b s.2.2 (pos2 p s.1) k q fun hle => (h3 q hle).2).trans ((if_neg hqk).trans (h3 q (by omega)).2)⟩

/-- Three hundred trips return at `q` the value and the position of the candidate of rank `q`. -/
theorem scan (h : Ready p a b) (q : Fin 304) (hq : q.val < 300) : ∃ j, 0 ≤ row a b j ∧ rank (row a b) (row p b) j = q.val
    ∧ (Scf.fold (trip p) (a, broadcast S128x304 (Scalar.ofBits .f32 0x00000000#32),
        broadcast S128x304 (Scalar.ofBits .f32 0x00000000#32))).2.1 (ix2 b q) = row a b j
    ∧ (Scf.fold (trip p) (a, broadcast S128x304 (Scalar.ofBits .f32 0x00000000#32),
        broadcast S128x304 (Scalar.ofBits .f32 0x00000000#32))).2.2 (ix2 b q) = row p b j := by
  have := fold_induct (trip p) (a, broadcast S128x304 (Scalar.ofBits .f32 0x00000000#32),
        broadcast S128x304 (Scalar.ofBits .f32 0x00000000#32)) (Scanned p a b)
    ⟨fun j => by rw [left_zero h.values]; rfl, fun q hq => absurd hq (Nat.not_lt_zero _), fun q _ => ⟨c_zero, c_zero⟩⟩
    (Scanned.trip h)
  exact this.2.1 q hq

end Scan

end Cert.Kern

end
-- ==== Proof.Flat.lean ====
/-
  The two phases together, on one row: when every one of the row's `q + 1` first elements is among the sixteen first of its
  chunk, the kernel finds the element of rank `q`.
-/
module

public import proofs.«01_k».proof.Proof.Scan

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts Cert.Rank

/-- A chunk's element by its flat position. -/
def flatRow (x : FVec Ideal S128x214x128 .f32) (b : Fin 128) (n : Fin 27392) : EReal :=
  chunk x b ⟨n.val / 128, by omega⟩ ⟨n.val % 128, by omega⟩

variable {x : FVec Ideal S128x214x128 .f32} {b : Fin 128}

/-- A row at a flat position is the chunk's element at the lane. -/
theorem flatRow_mk (c : Fin 214) (l : Fin 128) (h : 128 * c.val + l.val < 27392) :
    flatRow x b ⟨128 * c.val + l.val, h⟩ = chunk x b c l := by
  unfold flatRow
  congr 1 <;> apply Fin.ext <;> simp <;> omega

/-- The candidate that round `r` returned of chunk `c`. -/
theorem cand_at (h : ∀ c, Full x b c) (r : Fin 16) (c : Fin 214) (hj : 216 * r.val + c.val < 3456) : ∃ l : Fin 128,
    0 ≤ chunk x b c l ∧ rank (chunk x b c) no l = r.val ∧ row (candVal x) b ⟨216 * r.val + c.val, hj⟩ = chunk x b c l
    ∧ row (candPos x) b ⟨216 * r.val + c.val, hj⟩ = (((128 * c.val + l.val : ℕ) : ℝ) : EReal) := by
  obtain ⟨l, hl, hr, hv, hp⟩ := round_apply (h c) r.isLt
  refine ⟨l, hl, hr, ?_, ?_⟩
  · rw [← hv]
    refine (joined_apply b (fun r => padded 0xBF800000#32 (roundVal (chunks x r))) r ⟨c.val, by omega⟩).trans ?_
    rw [padded_apply, dif_pos c.isLt]
  · rw [← hp]
    refine (joined_apply b (fun r => padded 0xC0000000#32 (roundPos (chunks x r))) r ⟨c.val, by omega⟩).trans ?_
    rw [padded_apply, dif_pos c.isLt]

/-- A candidate behind a round's results. -/
theorem cand_pad (r : Fin 16) (d : Fin 216) (hd : ¬ d.val < 214) (hj : 216 * r.val + d.val < 3456) :
    row (candVal x) b ⟨216 * r.val + d.val, hj⟩ = -1 ∧ row (candPos x) b ⟨216 * r.val + d.val, hj⟩ = ((-2 : ℝ) : EReal) := by
  constructor
  · refine (joined_apply b (fun r => padded 0xBF800000#32 (roundVal (chunks x r))) r d).trans ?_
    rw [padded_apply, dif_neg hd, c_neg_one]
  · refine (joined_apply b (fun r => padded 0xC0000000#32 (roundPos (chunks x r))) r d).trans ?_
    rw [padded_apply, dif_neg hd, c_neg_two]

/-- Every candidate is one of these. -/
theorem cand_cases (h : ∀ c, Full x b c) (j : Fin 3456) :
    (row (candVal x) b j = -1 ∧ row (candPos x) b j = ((-2 : ℝ) : EReal))
    ∨ ∃ (c : Fin 214) (l : Fin 128), j.val = 216 * rank (chunk x b c) no l + c.val ∧ 0 ≤ chunk x b c l
      ∧ row (candVal x) b j = chunk x b c l ∧ row (candPos x) b j = (((128 * c.val + l.val : ℕ) : ℝ) : EReal) := by
  have hj : 216 * (j.val / 216) + j.val % 216 = j.val := Nat.div_add_mod _ _
  by_cases hd : j.val % 216 < 214
  · obtain ⟨l, hl, hr, hv, hp⟩ := cand_at h ⟨j.val / 216, by omega⟩ ⟨j.val % 216, hd⟩ (by show 216 * (j.val / 216) + j.val % 216 < 3456; omega)
    have e : (⟨216 * (j.val / 216) + j.val % 216, by omega⟩ : Fin 3456) = j := Fin.ext hj
    refine Or.inr ⟨⟨j.val % 216, hd⟩, l, by rw [hr]; exact hj.symm, hl, ?_, ?_⟩
    · rw [← hv]; exact congrArg _ e.symm
    · rw [← hp]; exact congrArg _ e.symm
  · obtain ⟨hv, hp⟩ := cand_pad (x := x) (b := b) ⟨j.val / 216, by omega⟩ ⟨j.val % 216, by omega⟩ hd
      (by show 216 * (j.val / 216) + j.val % 216 < 3456; omega)
    have e : (⟨216 * (j.val / 216) + j.val % 216, by omega⟩ : Fin 3456) = j := Fin.ext hj
    refine Or.inl ⟨?_, ?_⟩
    · rw [← hv]; exact congrArg _ e.symm
    · rw [← hp]; exact congrArg _ e.symm

/-- The candidates are what the second phase needs. -/
theorem ready (h : ∀ c, Full x b c) : Ready (candPos x) (candVal x) b where
  values j := (cand_cases h j).elim (fun e => Or.inr e.1) fun ⟨c, l, _, hl, hv, _⟩ => Or.inl (hv ▸ hl)
  live := by
    have hmap : ∀ m ∈ Finset.range 300, 216 * (m / 214) + m % 214 < 3456 := fun m hm => by
      have := Finset.mem_range.mp hm; omega
    have := Finset.card_le_card_of_injOn (s := Finset.range 300) (t := Finset.univ.filter fun j => 0 ≤ row (candVal x) b j)
      (fun m => ⟨(216 * (m / 214) + m % 214) % 3456, Nat.mod_lt _ (by norm_num)⟩) (fun m hm => by
        have hm' := hmap m hm
        have hm'' := Finset.mem_range.mp hm
        obtain ⟨l, hl, _, hv, _⟩ := cand_at h ⟨m / 214, by omega⟩ ⟨m % 214, Nat.mod_lt _ (by norm_num)⟩ hm'
        simp only [Finset.coe_filter, Finset.mem_univ, true_and, Set.mem_setOf_eq]
        have e : (⟨(216 * (m / 214) + m % 214) % 3456, Nat.mod_lt _ (by norm_num)⟩ : Fin 3456) = ⟨216 * (m / 214) + m % 214, hm'⟩ :=
          Fin.ext (Nat.mod_eq_of_lt hm')
        rw [e]
        exact hv ▸ hl) (fun m hm m' hm' e => by
        have h1 := hmap m hm
        have h2 := hmap m' hm'
        have e' := congrArg Fin.val e
        simp only [Nat.mod_eq_of_lt h1, Nat.mod_eq_of_lt h2] at e'
        have h3 : m % 214 < 214 := Nat.mod_lt _ (by norm_num)
        have h4 : m' % 214 < 214 := Nat.mod_lt _ (by norm_num)
        omega)
    rwa [Finset.card_range] at this
  numbered i j hi hij := by
    rcases cand_cases h i with ⟨hv, _⟩ | ⟨c, l, hj1, _, _, hp⟩
    · exact absurd (hv ▸ hi) not_live_neg_one
    rcases cand_cases h j with ⟨_, hp'⟩ | ⟨c', l', hj2, _, _, hp'⟩
    · rw [hp, hp'] at hij
      have h0 : (-2 : ℝ) = ((128 * c.val + l.val : ℕ) : ℝ) := by exact_mod_cast hij
      have h1 : (0 : ℝ) ≤ ((128 * c.val + l.val : ℕ) : ℝ) := Nat.cast_nonneg _
      rw [← h0] at h1
      norm_num at h1
    · rw [hp, hp'] at hij
      have h0 : 128 * c'.val + l'.val = 128 * c.val + l.val := by exact_mod_cast hij
      have hc : c' = c := Fin.ext (by omega)
      have hl : l' = l := Fin.ext (by omega)
      subst hc hl
      exact Fin.ext (hj2.trans hj1.symm)
  small j hj := by
    rcases cand_cases h j with ⟨hv, _⟩ | ⟨c, l, _, _, _, hp⟩
    · exact absurd (hv ▸ hj) not_live_neg_one
    · rw [hp]
      have h0 : 128 * c.val + l.val ≤ 1000000000 := by omega
      exact_mod_cast h0

/-- A live candidate stands for one element of the row. -/
theorem cand_flat (h : ∀ c, Full x b c) (j : Fin 3456) : ∃ n : Fin 27392,
    0 ≤ row (candVal x) b j → flatRow x b n = row (candVal x) b j ∧ no n = row (candPos x) b j := by
  rcases cand_cases h j with ⟨hv, _⟩ | ⟨c, l, _, _, hv, hp⟩
  · exact ⟨⟨0, by norm_num⟩, fun hj => absurd (hv ▸ hj) not_live_neg_one⟩
  · exact ⟨⟨128 * c.val + l.val, by omega⟩, fun _ => ⟨(flatRow_mk c l _).trans hv.symm, hp.symm⟩⟩

/-- The element's rank in its chunk. -/
def chunkRank (x : FVec Ideal S128x214x128 .f32) (b : Fin 128) (n : Fin 27392) : ℕ :=
  rank (chunk x b ⟨n.val / 128, by omega⟩) no ⟨n.val % 128, by omega⟩

/-- A live element of rank below sixteen in its chunk is a candidate. -/
theorem flat_cand (h : ∀ c, Full x b c) (n : Fin 27392) (hn : 0 ≤ flatRow x b n) (hr : chunkRank x b n < 16) : ∃ j,
    row (candVal x) b j = flatRow x b n ∧ row (candPos x) b j = no n := by
  obtain ⟨l, hl, hlr, hv, hp⟩ := cand_at h ⟨chunkRank x b n, hr⟩ ⟨n.val / 128, by omega⟩ (by
    show 216 * chunkRank x b n + n.val / 128 < 3456
    omega)
  have e : l = ⟨n.val % 128, by omega⟩ := rank_inj (numbered _) hn hl hlr
  refine ⟨_, hv.trans (by rw [e]; rfl), hp.trans ?_⟩
  rw [e]
  unfold no
  rw [Nat.div_add_mod]

/-- Every one of the row's `q + 1` first elements is among its chunk's sixteen first. -/
def Sparse (x : FVec Ideal S128x214x128 .f32) (b : Fin 128) (q : ℕ) : Prop :=
  ∀ n, 0 ≤ flatRow x b n → rank (flatRow x b) no n ≤ q → chunkRank x b n < 16

/-- Query `q` of the kernel is the element of rank `q`: its value and its flat position. -/
theorem found_apply (h : ∀ c, Full x b c) (q : Fin 304) (hq : q.val < 300) (hs : Sparse x b q.val) : ∃ n : Fin 27392,
    0 ≤ flatRow x b n ∧ rank (flatRow x b) no n = q.val
    ∧ (found x).2.1 (ix2 b q) = flatRow x b n ∧ (found x).2.2 (ix2 b q) = no n := by
  have hR := ready h
  choose e he using cand_flat h
  have hinj : ∀ a c, 0 ≤ row (candVal x) b a → 0 ≤ row (candVal x) b c → e a = e c → a = c := fun a c ha hc hac =>
    hR.numbered c a hc (by rw [← (he a ha).2, ← (he c hc).2, hac])
  have hlive : 300 ≤ (Finset.univ.filter fun n => 0 ≤ flatRow x b n).card := by
    refine hR.live.trans (Finset.card_le_card_of_injOn e (fun j hj => ?_) fun a ha c hc => ?_)
    · simp only [Finset.coe_filter, Finset.mem_univ, true_and, Set.mem_setOf_eq] at hj ⊢
      rw [(he j hj).1]
      exact hj
    · simp only [Finset.coe_filter, Finset.mem_univ, true_and, Set.mem_setOf_eq] at ha hc
      exact hinj a c ha hc
  obtain ⟨n, hn, hnr⟩ := Rank.exists_rank (numbered _) q.val (hq.trans_le hlive)
  have hcand : ∀ i, 0 ≤ flatRow x b i → rank (flatRow x b) no i ≤ q.val → ∃ a, 0 ≤ row (candVal x) b a ∧ e a = i := by
    intro i hi hir
    obtain ⟨a, hv, hp⟩ := flat_cand h i hi (hs i hi hir)
    have ha : 0 ≤ row (candVal x) b a := hv ▸ hi
    exact ⟨a, ha, no_inj ((he a ha).2.trans hp)⟩
  obtain ⟨a, ha, rfl⟩ := hcand n hn hnr.le
  have hrank : rank (row (candVal x) b) (row (candPos x) b) a = rank (flatRow x b) no (e a) :=
    rank_comp e _ _ a he ha hinj fun i hi hb =>
      hcand i hi ((rank_lt _ _ hi hb).trans_eq hnr).le
  obtain ⟨j, hj, hjr, hv, hp⟩ := scan hR q hq
  have hja : j = a := rank_inj hR.numbered ha hj (by rw [hjr, hrank, hnr])
  subst hja
  exact ⟨e j, hn, hnr, hv.trans (he j hj).1.symm, hp.trans (he j hj).2.symm⟩

end Cert.Kern

end
-- ==== Proof.Ref.lean ====
/-
  What the reference computes, stage by stage, as functions of its four argument arrays, and its run: from any memory it ends
  with its six results holding those functions of its arguments.
-/
module

public import proofs.«01_k».proof.Defs
public import proofs.«01_k».proof.Proof.Gen.ReferenceIdeal
public import Idealize.ShloMosaic.Lib.Claim
public import Idealize.ShloMosaic.Lib.Tactic

@[expose] public section

set_option maxRecDepth 16384

noncomputable section

namespace Cert.Ref

open Cert.ReferenceIdeal Cert.ReferenceIdeal.Gen
open Idealize.ShloMosaic Idealize.ShloMosaic.TcCoe
open Idealize.SL Idealize.SL.Sem

variable (a0 : FVec Ideal S128x300x91 .f32) (a1 : FVec Ideal S128x300x2 .f32) (a2 : FVec Ideal S128 .f32)
  (a3 : FVec Ideal S128x301 .f32)

/-- The logistic function of every class score. -/
def sigm : FVec Ideal S128x300x91 .f32 :=
  Host.divf (broadcastInDim S128x300x91 ![] bcast_S_S128x300x91 (constant S_ .f32 0x3F800000#32))
    (addf (broadcastInDim S128x300x91 ![] bcast_S_S128x300x91 (constant S_ .f32 0x3F800000#32)) (Host.exp (Host.negf a0)))

/-- The scores of one batch row, flattened. -/
def prob : FVec Ideal S128x27300 .f32 := shapeCast S128x27300 (sigm a0) shapeCasts_S128x300x91_S128x27300

/-- The 300 greatest scores of a row, in order. -/
def vals : FVec Ideal S128x300 .f32 :=
  (Host.topK S128x300 1 (FloatOps.cmpfTotal .gt) (prob a0) sliceFits_S128x27300_S128x300).1

/-- Their flat positions. -/
def idxs : IVec S128x300 32 :=
  (Host.topK S128x300 1 (FloatOps.cmpfTotal .gt) (prob a0) sliceFits_S128x27300_S128x300).2

/-- A scalar word over a whole array. -/
def fill (k : IVec S_ 32) : IVec S128x300 32 := broadcastInDim S128x300 ![] bcast_S_S128x300 k

/-- The floor division of an array of words by one word, as the reference spells it. -/
def floorDiv (x : IVec S128x300 32) (k : IVec S_ 32) : IVec S128x300 32 :=
  select (andi (cmpi .ne (signi x) (fill (signi k))) (cmpi .ne (Host.remsi x (fill k)) (fill (constantI S_ 32 0#32))))
    (subi (Host.divsi x (fill k)) (fill (constantI S_ 32 1#32))) (Host.divsi x (fill k))

/-- The divisor of the remainder: the word, or one in place of zero. -/
def modulus (k : IVec S_ 32) : IVec S_ 32 := select (cmpi .eq k (constantI S_ 32 0#32)) (constantI S_ 32 1#32) k

/-- The remainder of an array of words by one word, as the reference spells it. -/
def remainder (x : IVec S128x300 32) (k : IVec S_ 32) : IVec S128x300 32 :=
  select
    (andi
      (cmpi .ne (cmpi .slt (Host.remsi x (fill (modulus k))) (fill (constantI S_ 32 0#32)))
        (broadcastInDim S128x300 ![] bcast_S_S128x300 (cmpi .slt (modulus k) (constantI S_ 32 0#32))))
      (cmpi .ne (Host.remsi x (fill (modulus k))) (fill (constantI S_ 32 0#32))))
    (addi (Host.remsi x (fill (modulus k))) (fill (modulus k))) (Host.remsi x (fill (modulus k)))

/-- The query index of each of the 300. -/
def tops : IVec S128x300 32 := floorDiv (idxs a0) (constantI S_ 32 91#32)

/-- The class of each of the 300. -/
def labels : IVec S128x300 32 := remainder (idxs a0) (constantI S_ 32 91#32)

/-- The centers of the boxes. -/
def cen : FVec Ideal S128x300 .f32 :=
  shapeCast S128x300 (extractStridedSlice S128x300x1 ![0, 0, 0] a1 slices_S128x300x2_S128x300x1_0_0_0) shapeCasts_S128x300x1_S128x300

/-- The lengths of the boxes. -/
def len : FVec Ideal S128x300 .f32 :=
  shapeCast S128x300 (extractStridedSlice S128x300x1 ![0, 0, 1] a1 slices_S128x300x2_S128x300x1_0_0_1) shapeCasts_S128x300x1_S128x300

/-- Half the lengths. -/
def half : FVec Ideal S128x300 .f32 :=
  mulf (broadcastInDim S128x300 ![] bcast_S_S128x300 (constant S_ .f32 0x3F000000#32)) (len a1)

/-- The two ends of every box. -/
def raw : FVec Ideal S128x300x2 .f32 :=
  concatenate S128x300x2 2
    [⟨S128x300x1, broadcastInDim S128x300x1 ![0, 1] bcast_S128x300_S128x300x1_0_1 (subf (cen a1) (half a1))⟩,
     ⟨S128x300x1, broadcastInDim S128x300x1 ![0, 1] bcast_S128x300_S128x300x1_0_1 (addf (cen a1) (half a1))⟩]
    concatenates_S128x300x1_S128x300x1_S128x300x2_d2

/-- The ends clipped to [0, 1]. -/
def clipped : FVec Ideal S128x300x2 .f32 :=
  minimumf (broadcastInDim S128x300x2 ![] bcast_S_S128x300x2 (constant S_ .f32 0x3F800000#32))
    (maximumf (broadcastInDim S128x300x2 ![] bcast_S_S128x300x2 (constant S_ .f32 0x00000000#32)) (raw a1))

/-- A word over the array of start indices. -/
def fill1 (k : BitVec 32) : IVec S128x300x1 32 := broadcastInDim S128x300x1 ![] bcast_S_S128x300x1 (constantI S_ 32 k)

/-- A start index, a negative one counted from the end. -/
def wrapped (t : IVec S128x300x1 32) : IVec S128x300x1 32 := select (cmpi .slt t (fill1 0#32)) (addi t (fill1 300#32)) t

/-- Whether a start index is inside the array. -/
def inside (t : IVec S128x300x1 32) : IVec S128x300 1 :=
  Host.reduce IntOp.andi
    (andi (cmpi .sge (wrapped t) (fill1 0#32))
      (cmpi .sle (wrapped t)
        (broadcastInDim S128x300x1 ![0, 1, 2] bcast_S1x1x1_S128x300x1_0_1_2
          (broadcastInDim S1x1x1 ![2] bcast_S1_S1x1x1_2 (constantI S1 32 299#32)))))
    (constantI S_ 1 1#1) reducesTo_S128x300x1_S128x300_d2 h_S_

/-- The rows of `x` at the start indices `t`. -/
def taken (x : FVec Ideal S128x300x2 .f32) (t : IVec S128x300x1 32) : FVec Ideal S128x300x2 .f32 :=
  select (broadcastInDim S128x300x2 ![0, 1] bcast_S128x300_S128x300x2_0_1 (inside t))
    (Host.gather gather_S128x300x2_S128x300x1_S128x300x2_2_1_0_0_1_2_112 x (wrapped t))
    (broadcastInDim S128x300x2 ![] bcast_S_S128x300x2 (constant S_ .f32 0x7FC00000#32))

/-- The scale of every row, at every box and end. -/
def scale : FVec Ideal S128x300x2 .f32 :=
  broadcastInDim S128x300x2 ![0, 1, 2] bcast_S128x1x2_S128x300x2_0_1_2
    (broadcastInDim S128x1x2 ![0, 2] bcast_S128x2_S128x1x2_0_2
      (concatenate S128x2 1
        [⟨S128x1, broadcastInDim S128x1 ![0] bcast_S128_S128x1_0 a2⟩, ⟨S128x1, broadcastInDim S128x1 ![0] bcast_S128_S128x1_0 a2⟩]
        concatenates_S128x1_S128x1_S128x2_d1))

/-- The boxes of the 300, scaled. -/
def boxes : FVec Ideal S128x300x2 .f32 :=
  mulf (taken (clipped a1) (broadcastInDim S128x300x1 ![0, 1] bcast_S128x300_S128x300x1_0_1 (tops a0))) (scale a2)

/-- The position of the greatest count of each row. -/
def argm : IVec S128 32 := fun j =>
  (Host.argReduce (F := Ideal) reducer_argmax_f32_i32 a3 (iotaInDim S128x301 32 1) (constant S_ .f32 0xFF800000#32)
    (constantI S_ 32 0#32) reducesTo_S128x301_S128_d1 h_S_ j).2

/-- The predicted lengths. -/
def lens : IVec S128 32 := maxsi (broadcastInDim S128 ![] bcast_S_S128 (constantI S_ 32 1#32)) (argm a3)

section

variable (m : (ℓ : Loc nD τ sig) → Buf (Elt Ideal) ℓ) (g : Dev nD → PrngReg)

/-- From any memory the reference ends with its six results holding these functions of its arguments, which it leaves alone. -/
theorem run : θ_run (defs (F := Ideal)) (onTc (τ := τ) (main (F := Ideal))) ⟨m, fun _ => 0, g⟩ (fun r => ∀ c : Dev nD,
    r.2.mem ((c.tc : Thread nD τ).loc main_values) = vals (m ((c.tc : Thread nD τ).loc main_arg0))
    ∧ r.2.mem ((c.tc : Thread nD τ).loc main_v8) = labels (m ((c.tc : Thread nD τ).loc main_arg0))
    ∧ r.2.mem ((c.tc : Thread nD τ).loc main_v30)
        = boxes (m ((c.tc : Thread nD τ).loc main_arg0)) (m ((c.tc : Thread nD τ).loc main_arg1)) (m ((c.tc : Thread nD τ).loc main_arg2))
    ∧ r.2.mem ((c.tc : Thread nD τ).loc main_v21) = raw (m ((c.tc : Thread nD τ).loc main_arg1))
    ∧ r.2.mem ((c.tc : Thread nD τ).loc main_v7) = tops (m ((c.tc : Thread nD τ).loc main_arg0))
    ∧ r.2.mem ((c.tc : Thread nD τ).loc main_v32) = lens (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) := by
  hlo_run
  all_goals try simp -implicitDefEqProofs only [StableHlo.TRef.toBuf, StableHlo.TRef.ofBuf, cast_cast, cast_eq, id_eq]
  all_goals rfl

end

end Cert.Ref

end
-- ==== Proof.Sorted.lean ====
/-
  The reference's sort: its `q`-th element is the one of rank `q`.
-/
module

public import proofs.«01_k».proof.Proof.Ref
public import proofs.«01_k».proof.Proof.Chunk
public import Idealize.ShloMosaic.Lib.SortFacts

@[expose] public section

set_option maxRecDepth 16384

noncomputable section

namespace Cert.Sorted

open Idealize.ShloMosaic
open Cert.Rank Cert.Kern

section Order

variable {n : ℕ} (v : Fin n → EReal)

/-- The sort's comparison: the value is greater. -/
def Greater (k l : Fin n) : Bool := FloatOps.cmpfTotal (F := Ideal) (φ := .f32) .gt (v k) (v l) == 1#1

/-- The comparison of the sort says that the first score is greater. -/
theorem greater_iff (k l : Fin n) : Greater v k l = true ↔ v l < v k := by
  unfold Greater
  rw [Ideal.cmpfTotal_def]
  by_cases h : v l < v k <;> simp [Ideal.cmp, CmpDirection.ordered, h]

open Classical in
/-- The full order: a greater value, or the same value and a smaller position. -/
def First (k l : Fin n) : Bool := decide (Before v no k l)

/-- Numbers of places are in the order of the places. -/
theorem no_lt {k l : Fin n} : no k < no l ↔ k < l := by
  unfold no
  rw [Fin.lt_def, EReal.coe_lt_coe_iff]
  exact Nat.cast_lt

/-- The comparison with ties broken by place is the order of ranks. -/
theorem first_iff (k l : Fin n) : First v k l = true ↔ Before v no k l := by simp [First]

/-- On positions in increasing order, a stable sort by value is a sort by the full order. -/
theorem stableSort_eq (l : List (Fin n)) (hl : l.Pairwise (· < ·)) : stableSort (Greater v) l = stableSort (First v) l := by
  induction l with
  | nil => rfl
  | cons a l ih =>
    rw [List.pairwise_cons] at hl
    unfold stableSort
    rw [ih hl.2]
    refine insertBefore_congr _ _ a _ fun b hb => ?_
    have hab : a < b := hl.1 b ((perm_stableSort (First v) l).mem_iff.mp hb)
    rw [Bool.eq_iff_iff, greater_iff, first_iff]
    refine ⟨Or.inl, fun h => h.elim id fun h => ?_⟩
    exact absurd (no_lt.mp h.2) (not_lt.mpr hab.le)

/-- A stable sort by score is the sort with ties broken by place. -/
theorem sortedFrom_eq : sortedFrom (Greater v) = sortedFrom (First v) := by
  have h : sortPositions n (Greater v) = sortPositions n (First v) := stableSort_eq v _ (List.pairwise_lt_finRange n)
  funext k
  unfold sortedFrom
  rw [List.get_of_eq h]
  rfl

/-- Of two places one is before the other. -/
theorem first_or {k l : Fin n} (h : k ≠ l) : Before v no k l ∨ Before v no l k := by
  rcases lt_trichotomy (v l) (v k) with h1 | h1 | h1
  · exact Or.inl (Or.inl h1)
  · rcases lt_or_gt_of_ne h with h2 | h2
    · exact Or.inl (Or.inr ⟨h1.symm, no_lt.mpr h2⟩)
    · exact Or.inr (Or.inr ⟨h1, no_lt.mpr h2⟩)
  · exact Or.inr (Or.inl h1)

/-- No later element of the sort is before an earlier one. -/
theorem sorted_not_before {i j : Fin n} (hij : i < j) :
    ¬ Before v no (sortedFrom (First v) j) (sortedFrom (First v) i) := by
  have h := sortedFrom_noInversion (First v) (First v) (fun a b hab => ?_) (fun _ _ h => h) (fun a b c hab hbc => ?_) i j hij
  · rwa [← Bool.not_eq_true, first_iff] at h
  · rw [first_iff] at hab
    rw [← Bool.not_eq_true, first_iff]
    exact fun h => Before.irrefl v no a (hab.trans v no h)
  · rw [← Bool.not_eq_true, first_iff] at hab hbc ⊢
    intro hac
    rcases eq_or_ne b c with rfl | hne
    · exact hab hac
    · rcases first_or v hne with h | h
      · exact hbc h
      · exact hab (hac.trans v no h)

/-- Position `q` of the sort holds the element of rank `q`, no element being negative. -/
theorem rank_sorted (hv : ∀ k, 0 ≤ v k) (q : Fin n) : rank v no (sortedFrom (Greater v) q) = q.val := by
  classical
  rw [sortedFrom_eq]
  have hinj := sortedFrom_injective (First v)
  have : ahead v no (sortedFrom (First v) q) = (Finset.Iio q).image (sortedFrom (First v)) := by
    ext k
    obtain ⟨p, rfl⟩ := sortedFrom_surjective (First v) k
    simp only [ahead, Finset.mem_filter, Finset.mem_univ, true_and, Finset.mem_image, Finset.mem_Iio]
    constructor
    · rintro ⟨-, hb⟩
      refine ⟨p, ?_, rfl⟩
      rcases lt_trichotomy p q with h | rfl | h
      · exact h
      · exact absurd hb (Before.irrefl v no _)
      · exact absurd hb (sorted_not_before v h)
    · rintro ⟨p', hp, he⟩
      rw [hinj he] at hp
      exact ⟨hv _, (first_or v (hinj.ne hp.ne)).resolve_right (sorted_not_before v hp)⟩
  unfold rank
  rw [this, Finset.card_image_of_injective _ hinj, Fin.card_Iio]

end Order

open Cert.ReferenceIdeal Cert.ReferenceIdeal.Gen

variable (a0 : FVec Ideal S128x300x91 .f32) (b : Fin 128)

/-- The scores of row `b`. -/
def probRow (n : Fin 27300) : EReal := Ref.prob a0 (ix2 b n)

/-- A place put into an index along the row is the row's index at that place. -/
theorem along_eq (b : Fin 128) (n k : Fin 27300) : Shape.Idx.along (s := S128x27300) (ix2 b n) 1 k = ix2 b k := by
  funext a
  match a with
  | ⟨0, _⟩ => rfl
  | ⟨1, _⟩ => rfl

/-- A two-operand sort along a row, read at one place. -/
theorem sort2_apply (x : FVec Ideal S128x27300 .f32) (y : IVec S128x27300 32) (n : Fin 27300) :
    (Host.sort2 S128x27300 1 (fun l r => FloatOps.cmpfTotal (F := Ideal) (φ := .f32) .gt l.1 r.1) x y).1 (ix2 b n)
      = x (ix2 b (sortedFrom (Greater fun k => x (ix2 b k)) n))
    ∧ (Host.sort2 S128x27300 1 (fun l r => FloatOps.cmpfTotal (F := Ideal) (φ := .f32) .gt l.1 r.1) x y).2 (ix2 b n)
      = y (ix2 b (sortedFrom (Greater fun k => x (ix2 b k)) n)) := by
  have hs : (sortedFrom (n := 27300) fun k k' => FloatOps.cmpfTotal (F := Ideal) (φ := .f32) .gt
      (x (Shape.Idx.along (s := S128x27300) (ix2 b n) 1 k)) (x (Shape.Idx.along (s := S128x27300) (ix2 b n) 1 k')) == 1#1)
      = sortedFrom (Greater fun k => x (ix2 b k)) := by
    simp only [along_eq]
    rfl
  unfold Host.sort2
  rw [dif_pos (by decide)]
  constructor
  · rw [← hs]
    exact congrArg x (along_eq b n _)
  · rw [← hs]
    exact congrArg y (along_eq b n _)

/-- Query `q` of the reference: the value and the position of place `q` of the sort. -/
theorem topK_apply (q : Fin 300) :
    Ref.vals a0 (ix2 b q) = probRow a0 b (sortedFrom (Greater (probRow a0 b)) ⟨q.val, by omega⟩)
    ∧ Ref.idxs a0 (ix2 b q) = BitVec.ofNat 32 (sortedFrom (Greater (probRow a0 b)) ⟨q.val, by omega⟩).val := by
  have hrow : probRow a0 b = fun n => Ref.prob a0 (ix2 b n) := rfl
  rw [hrow]
  unfold Ref.vals Ref.idxs
  generalize Ref.prob a0 = p
  unfold Host.topK
  have hi : ∀ z : Type, ∀ t : S128x27300.Idx → z,
      extractStridedSlice S128x300 (fun _ => 0) t sliceFits_S128x27300_S128x300 (ix2 b q) = t (ix2 b ⟨q.val, by omega⟩) := by
    intro z t
    pointwise
  obtain ⟨h1, h2⟩ := sort2_apply b p (fun i => if hd : 1 < S128x27300.rank then iotaInDim S128x27300 32 ⟨1, hd⟩ i else 0#32) ⟨q.val, by omega⟩
  refine ⟨(hi _ _).trans h1, (hi _ _).trans (h2.trans ?_)⟩
  rw [dif_pos (by decide)]
  rfl

end Cert.Sorted

end
-- ==== Proof.Rows.lean ====
/-
  A row of the kernel's chunks and a row of the reference's scores: one list of elements, in the chunks with `-1` behind it.
-/
module

public import proofs.«01_k».proof.Proof.Flat
public import proofs.«01_k».proof.Proof.Sorted

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts Cert.Rank Cert.Sorted

variable (a0 : FVec Ideal S128x300x91 .f32) (b : Fin 128)

/-- The kernel's scores are the reference's. -/
theorem scores_eq : scores a0 = Ref.prob a0 := by
  funext i
  simp only [scores, Ref.prob, Ref.sigm]
  pointwise

/-- An exponential is nonnegative. -/
theorem exp_nonneg (y : EReal) : 0 ≤ Ideal.exp y := by
  induction y with
  | bot => exact le_rfl
  | top => exact le_top
  | coe r => exact EReal.coe_nonneg.mpr (Real.exp_pos r).le

/-- A nonnegative number divided by a positive one is nonnegative. -/
theorem div_nonneg {y z : EReal} (hy : 0 ≤ y) (hz : 0 < z) : 0 ≤ Ideal.div y z := by
  unfold Ideal.div
  rw [if_neg hz.ne']
  exact mul_nonneg hy (EReal.inv_nonneg_of_nonneg hz.le)

/-- The logistic function is nowhere negative. -/
theorem prob_nonneg (n : Fin 27300) : 0 ≤ probRow a0 b n := by
  unfold probRow
  rw [← scores_eq]
  simp only [scores]
  pointwise
  exact div_nonneg zero_le_one (zero_lt_one.trans_le (le_add_of_nonneg_right (exp_nonneg _)))

/-- A row filled up with -1 and cut into chunks of 128, read at a lane of a chunk. -/
theorem chunked_read (p : FVec Ideal S128x27300 .f32) (c : Fin 214) (l : Fin 128) :
    shapeCast S128x214x128 (pad S128x27392 ![0, 0] ![0, 92] ![0, 0] p (constant (F := Ideal) S_ .f32 0xBF800000#32)
      pads_S128x27300_S128x27392_000_0920 h_S_) shapeCasts_S128x27392_S128x214x128 (ix3 b c l)
    = if h : c.val * 128 + l.val < 27300 then (p (ix2 b ⟨c.val * 128 + l.val, h⟩) : EReal) else -1 := by
  rw [← c_neg_one]
  pointwise

/-- An element of a chunk: the score at its flat position, `-1` behind the scores. -/
theorem chunk_apply (c : Fin 214) (l : Fin 128) : chunk (chunked a0) b c l
    = if h : c.val * 128 + l.val < 27300 then probRow a0 b ⟨c.val * 128 + l.val, h⟩ else -1 := by
  unfold chunk chunked
  rw [scores_eq, chunked_read]
  rfl

/-- An element of a row of chunks. -/
theorem flatRow_apply (n : Fin 27392) : flatRow (chunked a0) b n
    = if h : n.val < 27300 then probRow a0 b ⟨n.val, h⟩ else -1 := by
  unfold flatRow
  rw [chunk_apply]
  have e : n.val / 128 * 128 + n.val % 128 = n.val := Nat.div_add_mod' _ _
  simp only [e]

/-- Every chunk is full enough. -/
theorem full (c : Fin 214) : Full (chunked a0) b c where
  values l := by
    rw [chunk_apply]
    split_ifs with h
    · exact Or.inl (prob_nonneg a0 b _)
    · exact Or.inr rfl
  live := by
    have := Finset.card_le_card_of_injOn (s := (Finset.univ : Finset (Fin 16)))
      (t := Finset.univ.filter fun l => 0 ≤ chunk (chunked a0) b c l) (fun m => ⟨m.val, by omega⟩) (fun m _ => by
        simp only [Finset.coe_filter, Finset.mem_univ, true_and, Set.mem_setOf_eq]
        rw [chunk_apply, dif_pos (show c.val * 128 + m.val < 27300 by omega)]
        exact prob_nonneg a0 b _) (fun m _ m' _ e => Fin.ext (Fin.mk.inj e))
    rwa [Finset.card_univ, Fintype.card_fin] at this

/-- A live element of a row of chunks is a score. -/
theorem lt_of_live {n : Fin 27392} (h : 0 ≤ flatRow (chunked a0) b n) : n.val < 27300 := by
  by_contra hn
  rw [flatRow_apply, dif_neg hn] at h
  exact not_live_neg_one h

/-- A score has one rank among the scores and among the elements of the chunks. -/
theorem rank_eq (n : Fin 27300) :
    rank (probRow a0 b) no n = rank (flatRow (chunked a0) b) no (n.castLE (by norm_num)) :=
  rank_comp (Fin.castLE (by norm_num)) _ _ n
    (fun k _ => ⟨(flatRow_apply a0 b _).trans (dif_pos k.isLt), rfl⟩)
    (prob_nonneg a0 b n) (fun _ _ _ _ e => Fin.castLE_injective _ e)
    fun i hi _ => ⟨⟨i.val, lt_of_live a0 b hi⟩, prob_nonneg a0 b _, rfl⟩

end Cert.Kern

end
-- ==== Proof.Mask.lean ====
/-
  Where the equation is claimed: the mask read at one query, and what it says of the row's elements.
-/
module

public import proofs.«01_k».proof.Proof.Gen.On_spread
public import proofs.«01_k».proof.Proof.Rows
public import Idealize.ShloMosaic.Lib.IndicatorCount
public import Idealize.ShloMosaic.Lib.Routing.Words

@[expose] public section

set_option maxRecDepth 16384

noncomputable section

namespace Cert.Mask

open Cert.On_spread Cert.On_spread.Gen
open Idealize.ShloMosaic
open Cert.Consts Cert.Rank Cert.Sorted Cert.Kern

/-- The number of every query's chunk. -/
def chunkOf (t : IVec S128x300 32) : IVec S128x300 32 :=
  Host.divsi t (broadcastInDim S128x300 ![] bcast_S_S128x300 (constantI S_ 32 128#32))

/-- At `(q, p)`: whether query `p` is `q` or before it. -/
def upto : IVec S128x300x300 1 := cmpi .sle (iotaInDim S128x300x300 32 2) (iotaInDim S128x300x300 32 1)

/-- At `(q, p)`: whether the two queries share a chunk. -/
def same (u : IVec S128x300 32) : IVec S128x300x300 1 :=
  cmpi .eq
    (broadcastInDim S128x300x300 ![0, 1, 2] bcast_S128x300x1_S128x300x300_0_1_2
      (broadcastInDim S128x300x1 ![0, 1] bcast_S128x300_S128x300x1_0_1 u))
    (broadcastInDim S128x300x300 ![0, 1, 2] bcast_S128x1x300_S128x300x300_0_1_2
      (broadcastInDim S128x1x300 ![0, 2] bcast_S128x300_S128x1x300_0_2 u))

/-- How many queries up to each share its chunk. -/
def place (u : IVec S128x300 32) : IVec S128x300 32 :=
  Host.reduce IntOp.addi (extui 32 (andi (same u) upto) natLt_1_32) (constantI S_ 32 0#32)
    reducesTo_S128x300x300_S128x300_d2 h_S_

/-- Whether no query up to each has more than sixteen. -/
def query (w : IVec S128x300 32) : IVec S128x300 1 :=
  Host.reduce IntOp.andi
    (ori
      (broadcastInDim S128x300x300 ![0, 2] bcast_S128x300_S128x300x300_0_2
        (cmpi .sle w (broadcastInDim S128x300 ![] bcast_S_S128x300 (constantI S_ 32 16#32))))
      (noti upto))
    (constantI S_ 1 1#1) reducesTo_S128x300x300_S128x300_d2 h_S_

/-- The mask in these terms. -/
theorem fn_eq (a0 : FVec Ideal S128x300x91 .f32) (a1 : FVec Ideal S128x300x2 .f32) (a2 : FVec Ideal S128 .f32)
    (a3 : FVec Ideal S128x301 .f32) : fn a0 a1 a2 a3
    = (query (place (chunkOf (Ref.idxs a0))), query (place (chunkOf (Ref.idxs a0))),
        broadcastInDim S128x300x2 ![0, 1] bcast_S128x300_S128x300x2_0_1 (query (place (chunkOf (Ref.idxs a0)))),
        broadcastInDim S128x300x2 ![] bcast_S_S128x300x2 (constantI S_ 1 1#1),
        query (place (chunkOf (Ref.idxs a0))),
        broadcastInDim S128 ![] bcast_S_S128 (constantI S_ 1 1#1)) := rfl

/-- A conjunction of bits is set when both are. -/
theorem andi_one {x y : BitVec 1} : IntOp.andi x y = 1#1 ↔ x = 1#1 ∧ y = 1#1 := by
  revert x y
  decide

/-- A bit or the complement of another is set when the second implies the first. -/
theorem ori_not_one {x y : BitVec 1} : IntOp.ori x (~~~y) = 1#1 ↔ (y = 1#1 → x = 1#1) := by
  revert x y
  decide

/-- A conjunction that is true is true at every place. -/
theorem fold_andi_one {ι : Type} (s : Finset ι) (f : ι → BitVec 1) (h : s.fold IntOp.andi 1#1 f = 1#1) : ∀ a ∈ s, f a = 1#1 := by
  classical
  induction s using Finset.induction_on with
  | empty => simp
  | insert a s ha ih =>
    rw [Finset.fold_insert ha, andi_one] at h
    intro c hc
    rcases Finset.mem_insert.mp hc with rfl | hc
    · exact h.1
    · exact ih h.2 c hc

/-- The mask's chunk of a position is its quotient by 128. -/
theorem chunkOf_apply (t : IVec S128x300 32) (b : Fin 128) (q : Fin 300) (n : ℕ) (hn : n < 2 ^ 31)
    (h : t (ix2 b q) = BitVec.ofNat 32 n) : chunkOf t (ix2 b q) = BitVec.ofNat 32 (n / 128) := by
  have e : chunkOf t (ix2 b q) = IntOp.divsi .host (t (ix2 b q)) 128#32 := by
    simp only [chunkOf]
    pointwise
  rw [e, h]
  exact Routing.divsi_word .host hn (by norm_num) (by norm_num)

/-- The mask's place of a query: how many queries up to it have its chunk. -/
theorem place_apply (u : IVec S128x300 32) (b : Fin 128) (p : Fin 300) : place u (ix2 b p)
    = BitVec.ofNat 32 (Finset.univ.filter fun r : Fin 300 => u (ix2 b p) = u (ix2 b r) ∧ r ≤ p).card := by
  have e : place u (ix2 b p) = Finset.univ.fold IntOp.addi 0#32 fun r : Fin 300 => BitVec.setWidth 32
      (IntOp.andi (IntOp.cmpi .eq (u (ix2 b p)) (u (ix2 b r))) (IntOp.cmpi .sle (BitVec.ofNat 32 r.val) (BitVec.ofNat 32 p.val))) := by
    simp only [place, same, upto]
    pointwise
  rw [e, IndicatorCount.fold_addi_setWidth_eq_card]
  refine congrArg (BitVec.ofNat 32) (congrArg Finset.card (Finset.filter_congr fun r _ => ?_))
  rw [andi_one, sle_iff (by omega) (by omega), Fin.le_def]
  refine and_congr_left fun _ => ?_
  by_cases h : u (ix2 b p) = u (ix2 b r)
  · simp [IntOp.cmpi, h]
  · simp [IntOp.cmpi, beq_eq_false_iff_ne.mpr h, h]

/-- Where the mask is true at query `q`, the place of every query up to `q` is at most sixteen. -/
theorem query_apply (w : IVec S128x300 32) (b : Fin 128) (q : Fin 300) (h : query w (ix2 b q) = 1#1) (p : Fin 300) (hp : p ≤ q) :
    IntOp.cmpi .sle (w (ix2 b p)) 16#32 = 1#1 := by
  have e : query w (ix2 b q) = Finset.univ.fold IntOp.andi 1#1 fun p : Fin 300 =>
      IntOp.ori (IntOp.cmpi .sle (w (ix2 b p)) 16#32) (~~~IntOp.cmpi .sle (BitVec.ofNat 32 p.val) (BitVec.ofNat 32 q.val)) := by
    simp only [query, upto]
    pointwise
  exact ori_not_one.mp (fold_andi_one _ _ (e.symm.trans h) p (Finset.mem_univ p)) ((sle_iff (by omega) (by omega)).mpr hp)

/-- Where the mask is true, every query up to there is among the sixteen first queries of its chunk. -/
theorem mask_spec (t : IVec S128x300 32) (b : Fin 128) (q : Fin 300) (m : Fin 300 → ℕ) (hm : ∀ p, m p < 2 ^ 31)
    (ht : ∀ p, t (ix2 b p) = BitVec.ofNat 32 (m p)) (h : query (place (chunkOf t)) (ix2 b q) = 1#1) (p : Fin 300) (hp : p ≤ q) :
    (Finset.univ.filter fun r : Fin 300 => m r / 128 = m p / 128 ∧ r ≤ p).card ≤ 16 := by
  have hc : ∀ p, chunkOf t (ix2 b p) = BitVec.ofNat 32 (m p / 128) := fun p => chunkOf_apply t b p (m p) (hm p) (ht p)
  have h1 := query_apply _ b q h p hp
  rw [place_apply] at h1
  have hcard : (Finset.univ.filter fun r : Fin 300 => chunkOf t (ix2 b p) = chunkOf t (ix2 b r) ∧ r ≤ p).card ≤ 300 := by
    refine (Finset.card_le_univ _).trans ?_
    rw [Fintype.card_fin]
  have h2 := (sle_iff (by omega) (by norm_num)).mp h1
  refine le_trans (le_of_eq ?_) h2
  refine congrArg Finset.card (Finset.filter_congr fun r _ => ?_)
  have h3 := hm p
  have h4 := hm r
  rw [hc, hc, word_eq_iff (by omega) (by omega)]
  exact and_congr_left fun _ => eq_comm

end Cert.Mask

end
-- ==== Proof.Agree.lean ====
/-
  On the claimed queries the kernel finds the reference's element: scores, box numbers and labels.
-/
module

public import proofs.«01_k».proof.Proof.Mask

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts Cert.Rank Cert.Sorted Cert.Mask

variable (a0 : FVec Ideal S128x300x91 .f32) (b : Fin 128)

/-- The flat position of the reference's query `q`. -/
def best (q : Fin 300) : Fin 27300 := sortedFrom (Greater (probRow a0 b)) ⟨q.val, by omega⟩

/-- The `q`-th of a row's best scores has rank `q`. -/
theorem rank_best (q : Fin 300) : rank (probRow a0 b) no (best a0 b q) = q.val := rank_sorted _ (prob_nonneg a0 b) _

/-- An element of rank `q` is the reference's query `q`. -/
theorem eq_best {n : Fin 27300} {p : ℕ} (hp : p < 300) (h : rank (probRow a0 b) no n = p) : n = best a0 b ⟨p, hp⟩ :=
  rank_inj (numbered _) (prob_nonneg a0 b _) (prob_nonneg a0 b _) (h.trans (rank_best a0 b ⟨p, hp⟩).symm)

/-- Where the mask is true, every element up to that query is among the sixteen first of its chunk. -/
theorem sparse (q : Fin 300) (h : query (place (chunkOf (Ref.idxs a0))) (ix2 b q) = 1#1) : Sparse (chunked a0) b q.val := by
  classical
  intro n hn hq
  have hn' := lt_of_live a0 b hn
  obtain ⟨p, hr⟩ : ∃ p, rank (probRow a0 b) no ⟨n.val, hn'⟩ = p := ⟨_, rfl⟩
  have hpq : p ≤ q.val := by
    have := rank_eq a0 b ⟨n.val, hn'⟩
    rw [hr] at this
    exact this.trans_le hq
  have hp : p < 300 := by omega
  have hb := eq_best a0 b hp hr
  have hm := mask_spec (Ref.idxs a0) b q (fun p => (best a0 b p).val) (fun p => (best a0 b p).isLt.trans (by norm_num))
    (fun p => (topK_apply a0 b p).2) h ⟨p, hp⟩ hpq
  simp only [← hb] at hm
  set S := Finset.univ.filter fun r : Fin 300 => (best a0 b r).val / 128 = n.val / 128 ∧ r ≤ ⟨p, hp⟩ with hS
  have hmem : (⟨p, hp⟩ : Fin 300) ∈ S := by
    rw [hS, Finset.mem_filter, ← hb]
    exact ⟨Finset.mem_univ _, rfl, le_rfl⟩
  have hsub : ahead (chunk (chunked a0) b ⟨n.val / 128, by omega⟩) no ⟨n.val % 128, by omega⟩
      ⊆ (S.erase ⟨p, hp⟩).image fun r => (⟨(best a0 b r).val % 128, by omega⟩ : Fin 128) := by
    intro l hl
    rw [ahead, Finset.mem_filter] at hl
    obtain ⟨-, hl, hbef⟩ := hl
    have hN : n.val / 128 * 128 + l.val < 27300 := by
      by_contra hN
      rw [chunk_apply, dif_neg hN] at hl
      exact not_live_neg_one hl
    have hlt : rank (probRow a0 b) no ⟨n.val / 128 * 128 + l.val, hN⟩ < p := by
      rw [← hr]
      refine rank_lt _ _ (prob_nonneg a0 b _) ?_
      have e : (⟨n.val / 128 * 128 + n.val % 128, by omega⟩ : Fin 27300) = ⟨n.val, hn'⟩ := Fin.ext (Nat.div_add_mod' _ _)
      unfold Before at hbef ⊢
      rw [chunk_apply, chunk_apply, dif_pos hN, dif_pos (show n.val / 128 * 128 + n.val % 128 < 27300 by omega), no_lt, e] at hbef
      rw [no_lt]
      refine hbef.imp id fun h => ⟨h.1, ?_⟩
      have := h.2
      simp only [Fin.lt_def] at this ⊢
      omega
    obtain ⟨r, hr'⟩ : ∃ r, rank (probRow a0 b) no ⟨n.val / 128 * 128 + l.val, hN⟩ = r := ⟨_, rfl⟩
    rw [hr'] at hlt
    have he := eq_best a0 b (hlt.trans hp) hr'
    rw [Finset.mem_image]
    refine ⟨⟨r, hlt.trans hp⟩, ?_, ?_⟩
    · rw [Finset.mem_erase, hS, Finset.mem_filter, ← he]
      refine ⟨fun h => hlt.ne (Fin.mk.inj h), Finset.mem_univ _, ?_, hlt.le⟩
      show (n.val / 128 * 128 + l.val) / 128 = n.val / 128
      omega
    · have hv : n.val / 128 * 128 + l.val = (best a0 b ⟨r, hlt.trans hp⟩).val := congrArg Fin.val he
      refine Fin.ext ?_
      show (best a0 b ⟨r, hlt.trans hp⟩).val % 128 = l.val
      rw [← hv]
      omega
  have h1 := (Finset.card_le_card hsub).trans Finset.card_image_le
  rw [Finset.card_erase_of_mem hmem] at h1
  have h2 : (ahead (chunk (chunked a0) b ⟨n.val / 128, by omega⟩) no ⟨n.val % 128, by omega⟩).card < 16 := by omega
  unfold chunkRank rank
  exact h2

end Cert.Kern

end
-- ==== Proof.Words.lean ====
/-
  Box numbers and classes: the flat position divided by 91 with remainder, in the kernel's words and in the reference's.
-/
module

public import proofs.«01_k».proof.Proof.Agree

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts Cert.Rank Cert.Sorted Cert.Mask

/-- A word of a natural is not negative. -/
theorem slt_zero {n : ℕ} (h : n < 2 ^ 31) : IntOp.cmpi .slt (BitVec.ofNat 32 n) 0#32 = 0#1 := by
  have : ¬ ((n : ℤ) < 0) := by omega
  simp [IntOp.cmpi, BitVec.slt, toInt_nat n h, this]

/-- A word of a positive natural is positive. -/
theorem sgt_zero {n : ℕ} (h : n < 2 ^ 31) (h0 : 0 < n) : IntOp.cmpi .sgt (BitVec.ofNat 32 n) 0#32 = 1#1 := by
  simp [IntOp.cmpi, BitVec.slt, toInt_nat n h, h0]

/-- A selection under a false conjunct takes the second. -/
theorem select_second {w : ℕ} (c : BitVec 1) (x y : BitVec w) : Scalar.select (IntOp.andi 0#1 c) x y = y := by
  rw [show IntOp.andi 0#1 c = 0#1 by revert c; decide]
  rfl

/-- Division of words by 91 is that of naturals. -/
theorem div91 (u : ArithUnit) {n : ℕ} (h : n < 2 ^ 31) : IntOp.divsi u (BitVec.ofNat 32 n) 91#32 = BitVec.ofNat 32 (n / 91) :=
  Routing.divsi_word u h (by norm_num) (by norm_num)

/-- The remainder of words by 91 is that of naturals. -/
theorem rem91 (u : ArithUnit) {n : ℕ} (h : n < 2 ^ 31) : IntOp.remsi u (BitVec.ofNat 32 n) 91#32 = BitVec.ofNat 32 (n % 91) :=
  Routing.remsi_word u h (by norm_num) (by norm_num)

/-- A floating-point natural as a word. -/
theorem fptosi_nat {n : ℕ} (h : n < 2 ^ 31) : FloatOps.fptosi (F := Ideal) (φ := .f32) 32 ((n : ℝ) : EReal) = BitVec.ofNat 32 n := by
  show Ideal.fptosi 32 ((n : ℝ) : EReal) = _
  have e : Ideal.toIntClamped (-(2 ^ (32 - 1) : ℕ)) ((2 ^ (32 - 1) : ℕ) - 1) ((n : ℝ) : EReal)
      = max (-(2 ^ (32 - 1) : ℕ) : ℤ) (min ((2 ^ (32 - 1) : ℕ) - 1) (if 0 ≤ (n : ℝ) then ⌊(n : ℝ)⌋ else ⌈(n : ℝ)⌉)) := rfl
  unfold Ideal.fptosi
  rw [e, if_pos (Nat.cast_nonneg n), Int.floor_natCast]
  rw [min_eq_right (by push_cast; omega), max_eq_right (by push_cast; omega)]
  exact BitVec.ofInt_natCast 32 n

section

variable (y : IVec S128x304 32) (b : Fin 128) (q : Fin 304) {n : ℕ} (hn : n < 2 ^ 31) (h : y (ix2 b q) = BitVec.ofNat 32 n)
include hn h

/-- The kernel's floor division of a natural. -/
theorem floorDiv_apply : floorDiv y (ix2 b q) = BitVec.ofNat 32 (n / 91) := by
  have e : floorDiv y (ix2 b q) = Scalar.select
      (IntOp.andi
        (IntOp.cmpi .ne
          (IntOp.subi (BitVec.setWidth 32 (IntOp.cmpi .sgt (y (ix2 b q)) 0#32))
            (BitVec.setWidth 32 (IntOp.cmpi .slt (y (ix2 b q)) 0#32)))
          (Scalar.subi (Scalar.extui (Scalar.cmpi .sgt 91#32 0#32)) (Scalar.extui (Scalar.cmpi .slt 91#32 0#32))))
        (IntOp.cmpi .ne (IntOp.remsi .vector (y (ix2 b q)) 91#32) 0#32))
      (IntOp.subi (IntOp.divsi .vector (y (ix2 b q)) 91#32) 1#32) (IntOp.divsi .vector (y (ix2 b q)) 91#32) := by
    simp only [floorDiv, words]
    pointwise
  rw [e, h, div91 _ hn, rem91 _ hn, slt_zero hn]
  rcases Nat.eq_zero_or_pos n with rfl | h0
  · rfl
  · rw [sgt_zero hn h0]
    exact select_second _ _ _

/-- A box number already between 0 and 299 is kept. -/
theorem clampedNo_apply (hk : n < 300) : clampedNo y (ix2 b q) = BitVec.ofNat 32 n := by
  have e : clampedNo y (ix2 b q) = IntOp.minsi 299#32 (IntOp.maxsi 0#32 (y (ix2 b q))) := by
    simp only [clampedNo, words]
    pointwise
  have h1 : IntOp.maxsi 0#32 (BitVec.ofNat 32 n) = BitVec.ofNat 32 n := by
    unfold IntOp.maxsi
    rw [if_neg]
    simp [BitVec.slt, toInt_nat n hn]
  rw [e, h, h1]
  unfold IntOp.minsi
  simp only [BitVec.slt, toInt_nat n hn, show (299#32).toInt = 299 by decide, decide_eq_true_eq]
  rw [if_neg (by omega)]

end

section

variable (y : IVec S128x300 32) (b : Fin 128) (q : Fin 300) {n : ℕ} (hn : n < 2 ^ 31) (h : y (ix2 b q) = BitVec.ofNat 32 n)
include hn h

/-- The reference's floor division of a natural. -/
theorem refFloorDiv_apply : Ref.floorDiv y (constantI S_ 32 91#32) (ix2 b q) = BitVec.ofNat 32 (n / 91) := by
  have e : Ref.floorDiv y (constantI S_ 32 91#32) (ix2 b q) = Scalar.select
      (IntOp.andi
        (IntOp.cmpi .ne (if y (ix2 b q) = 0 then (0 : BitVec 32) else if (y (ix2 b q)).msb = true then -1 else 1)
          (if 91#32 = 0 then (0 : BitVec 32) else if (91#32).msb = true then -1 else 1))
        (IntOp.cmpi .ne (IntOp.remsi .host (y (ix2 b q)) 91#32) 0#32))
      (IntOp.subi (IntOp.divsi .host (y (ix2 b q)) 91#32) 1#32) (IntOp.divsi .host (y (ix2 b q)) 91#32) := by
    simp only [Ref.floorDiv, Ref.fill]
    pointwise
  rw [e, h, div91 _ hn, rem91 _ hn]
  rcases Nat.eq_zero_or_pos n with rfl | h0
  · rfl
  · have hz : ¬ BitVec.ofNat 32 n = 0 := fun h' => by
      have := (word_eq_iff (n := 0) (by omega) (by norm_num)).mp h'
      omega
    have hm : (BitVec.ofNat 32 n).msb = false := by
      rw [BitVec.msb_eq_decide, BitVec.toNat_ofNat, decide_eq_false_iff_not]
      omega
    rw [if_neg hz, hm]
    exact select_second _ _ _

/-- The reference's remainder of a natural. -/
theorem refRemainder_apply : Ref.remainder y (constantI S_ 32 91#32) (ix2 b q) = BitVec.ofNat 32 (n % 91) := by
  have e : Ref.remainder y (constantI S_ 32 91#32) (ix2 b q) = Scalar.select
      (IntOp.andi
        (IntOp.cmpi .ne (IntOp.cmpi .slt (IntOp.remsi .host (y (ix2 b q)) 91#32) 0#32) (IntOp.cmpi .slt 91#32 0#32))
        (IntOp.cmpi .ne (IntOp.remsi .host (y (ix2 b q)) 91#32) 0#32))
      (IntOp.addi (IntOp.remsi .host (y (ix2 b q)) 91#32) 91#32) (IntOp.remsi .host (y (ix2 b q)) 91#32) := by
    have hs : Scalar.select (IntOp.cmpi .eq 91#32 0#32) 1#32 91#32 = 91#32 := by decide
    simp only [Ref.remainder, Ref.fill, Ref.modulus]
    pointwise
    rw [hs]
  rw [e, h, rem91 _ hn, slt_zero (by omega)]
  exact select_second _ _ _

end

/-! ## The results -/

section

variable (a0 : FVec Ideal S128x300x91 .f32) (b : Fin 128) (q : Fin 300)

/-- The first 300 of 304 columns, read at a column. -/
theorem first300_apply {α : Type} (y : S128x304.Idx → α) : first300 y (ix2 b q) = y (ix2 b ⟨q.val, by omega⟩) := by
  simp only [first300]
  pointwise

/-- The reference's box number of a query. -/
theorem tops_apply : Ref.tops a0 (ix2 b q) = BitVec.ofNat 32 ((best a0 b q).val / 91) :=
  refFloorDiv_apply _ b q ((best a0 b q).isLt.trans (by norm_num)) (topK_apply a0 b q).2

/-- The reference's class of a query. -/
theorem labels_apply : Ref.labels a0 (ix2 b q) = BitVec.ofNat 32 ((best a0 b q).val % 91) :=
  refRemainder_apply _ b q ((best a0 b q).isLt.trans (by norm_num)) (topK_apply a0 b q).2

variable (h : query (place (chunkOf (Ref.idxs a0))) (ix2 b q) = 1#1)
include h

/-- On a claimed query the kernel finds the reference's score and its flat position. -/
theorem found_best : (found (chunked a0)).2.1 (ix2 b ⟨q.val, by omega⟩) = Ref.vals a0 (ix2 b q)
    ∧ (found (chunked a0)).2.2 (ix2 b ⟨q.val, by omega⟩) = (((best a0 b q).val : ℝ) : EReal) := by
  obtain ⟨n, hn, hr, hv, hp⟩ := found_apply (full a0 b) ⟨q.val, by omega⟩ q.isLt (sparse a0 b q h)
  have hn' := lt_of_live a0 b hn
  have he := eq_best a0 b q.isLt ((rank_eq a0 b ⟨n.val, hn'⟩).trans hr)
  have hval := congrArg Fin.val he
  dsimp only at hval
  refine ⟨hv.trans ?_, hp.trans ?_⟩
  · rw [flatRow_apply, dif_pos hn', he]
    exact (topK_apply a0 b q).1.symm
  · rw [← hval]
    rfl

/-- The scores agree on a claimed query. -/
theorem outScores_apply : outScores a0 (ix2 b q) = Ref.vals a0 (ix2 b q) :=
  (first300_apply b q _).trans (found_best a0 b q h).1

/-- The flat position that the kernel found for a query, as an integer. -/
theorem flat_apply : flat (chunked a0) (ix2 b ⟨q.val, by omega⟩) = BitVec.ofNat 32 (best a0 b q).val := by
  have e : ∀ v : FVec Ideal S128x304 .f32, fptosi 32 v (ix2 b ⟨q.val, by omega⟩) = FloatOps.fptosi 32 (v (ix2 b ⟨q.val, by omega⟩)) := fun v => by
    pointwise
  rw [flat, e, (found_best a0 b q h).2]
  exact fptosi_nat ((best a0 b q).isLt.trans (by norm_num))

/-- The kernel's box number of a query. -/
theorem boxNo_apply : boxNo (chunked a0) (ix2 b ⟨q.val, by omega⟩) = BitVec.ofNat 32 ((best a0 b q).val / 91) :=
  floorDiv_apply _ b _ ((best a0 b q).isLt.trans (by norm_num)) (flat_apply a0 b q h)

/-- The box numbers agree on a claimed query. -/
theorem outTops_apply : outTops a0 (ix2 b q) = Ref.tops a0 (ix2 b q) := by
  rw [tops_apply]
  exact (first300_apply b q _).trans (boxNo_apply a0 b q h)

/-- The labels agree on a claimed query. -/
theorem outLabels_apply : outLabels a0 (ix2 b q) = Ref.labels a0 (ix2 b q) := by
  have e : ∀ y z : IVec S128x304 32, subi z (muli y (words 91#32)) (ix2 b ⟨q.val, by omega⟩)
      = IntOp.subi (z (ix2 b ⟨q.val, by omega⟩)) (IntOp.muli (y (ix2 b ⟨q.val, by omega⟩)) 91#32) := fun y z => by
    simp only [words]
    pointwise
  rw [labels_apply]
  refine (first300_apply b q _).trans ?_
  rw [classNo, e, flat_apply a0 b q h, boxNo_apply a0 b q h]
  have := (best a0 b q).isLt
  generalize (best a0 b q).val = n at this
  apply BitVec.eq_of_toNat_eq
  simp only [IntOp.subi, IntOp.muli, BitVec.toNat_sub, BitVec.toNat_mul, BitVec.toNat_ofNat]
  omega

end

end Cert.Kern

end
-- ==== Proof.Simple.lean ====
/-
  The two results that need no order: the boxes returned as they are, and the sequence lengths.
-/
module

public import proofs.«01_k».proof.Proof.Stages
public import proofs.«01_k».proof.Proof.Ref
public import proofs.«01_k».proof.Proof.Consts

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts

section Boxes

variable (a1 : FVec Ideal S128x300x2 .f32)

/-- The kernel's starts are the reference's. -/
theorem start_eq : first300' (startOf (centres a1) (lengths a1)) = subf (Ref.cen a1) (Ref.half a1) := by
  funext i
  simp only [first300', startOf, halfLen, centres, lengths, filled, Ref.cen, Ref.half, Ref.len]
  pointwise

/-- The kernel's ends are the reference's. -/
theorem end_eq : first300' (endOf (centres a1) (lengths a1)) = addf (Ref.cen a1) (Ref.half a1) := by
  funext i
  simp only [first300', endOf, halfLen, centres, lengths, filled, Ref.cen, Ref.half, Ref.len]
  pointwise

/-- The boxes returned as they are agree. -/
theorem raw_eq : outRaw a1 = Ref.raw a1 := by
  rw [outRaw, start_eq, end_eq]
  rfl

end Boxes

section Lengths

/-- Of two value-and-index pairs, the first is at least as good: greater, or equal with no greater index. -/
def Wins (p q : EReal × BitVec 32) : Prop := q.1 < p.1 ∨ (p.1 = q.1 ∧ p.2.toInt ≤ q.2.toInt)

/-- Winning is transitive. -/
theorem Wins.trans {p q r : EReal × BitVec 32} (h : Wins p q) (h' : Wins q r) : Wins p r := by
  rcases h with h | ⟨e, h⟩ <;> rcases h' with h' | ⟨e', h'⟩
  · exact Or.inl (h'.trans h)
  · exact Or.inl (e' ▸ h)
  · exact Or.inl (e.symm ▸ h')
  · exact Or.inr ⟨e.trans e', h.trans h'⟩

/-- The reducer of the arg-max returns the better of its two pairs. -/
theorem reducer_spec (p q : Ideal .f32 × BitVec 32) :
    (Cert.ReferenceIdeal.reducer_argmax_f32_i32 (F := Ideal) p q = p ∨ Cert.ReferenceIdeal.reducer_argmax_f32_i32 (F := Ideal) p q = q)
    ∧ Wins (Cert.ReferenceIdeal.reducer_argmax_f32_i32 (F := Ideal) p q) p ∧ Wins (Cert.ReferenceIdeal.reducer_argmax_f32_i32 (F := Ideal) p q) q := by
  obtain ⟨v, k⟩ := p
  obtain ⟨w, l⟩ := q
  have hne : FloatOps.cmpf .une v v = 0#1 := by rw [Ideal.cmpf_def]; simp [Ideal.cmp]
  rcases lt_trichotomy (α := EReal) v w with h | h | h
  · have h1 : FloatOps.cmpf .ogt v w = 0#1 := by rw [Ideal.cmpf_def]; simp [Ideal.cmp, not_lt.mpr h.le]
    have h2 : FloatOps.cmpf .oeq v w = 0#1 := by rw [Ideal.cmpf_def]; simp [Ideal.cmp, h.ne]
    have : Cert.ReferenceIdeal.reducer_argmax_f32_i32 (F := Ideal) (v, k) (w, l) = (w, l) := by
      simp [Cert.ReferenceIdeal.reducer_argmax_f32_i32, hne, h1, h2, IntOp.ori, IntOp.andi, Scalar.select]
    rw [this]
    exact ⟨Or.inr rfl, Or.inl h, Or.inr ⟨rfl, le_rfl⟩⟩
  · subst h
    have h1 : FloatOps.cmpf .ogt v v = 0#1 := by rw [Ideal.cmpf_def]; simp [Ideal.cmp]
    have h2 : FloatOps.cmpf .oeq v v = 1#1 := by rw [Ideal.cmpf_def]; simp [Ideal.cmp]
    by_cases hk : k.toInt < l.toInt
    · have : Cert.ReferenceIdeal.reducer_argmax_f32_i32 (F := Ideal) (v, k) (v, l) = (v, k) := by
        simp [Cert.ReferenceIdeal.reducer_argmax_f32_i32, hne, h1, h2, IntOp.ori, IntOp.andi, Scalar.select, IntOp.cmpi, BitVec.slt, hk]
      rw [this]
      exact ⟨Or.inl rfl, Or.inr ⟨rfl, le_rfl⟩, Or.inr ⟨rfl, hk.le⟩⟩
    · have : Cert.ReferenceIdeal.reducer_argmax_f32_i32 (F := Ideal) (v, k) (v, l) = (v, l) := by
        simp [Cert.ReferenceIdeal.reducer_argmax_f32_i32, hne, h1, h2, IntOp.ori, IntOp.andi, Scalar.select, IntOp.cmpi, BitVec.slt, hk]
      rw [this]
      exact ⟨Or.inr rfl, Or.inr ⟨rfl, not_lt.mp hk⟩, Or.inr ⟨rfl, le_rfl⟩⟩
  · have h1 : FloatOps.cmpf .ogt v w = 1#1 := by rw [Ideal.cmpf_def]; simp [Ideal.cmp, h]
    have h2 : FloatOps.cmpf .oeq v w = 0#1 := by rw [Ideal.cmpf_def]; simp [Ideal.cmp, h.ne']
    have : Cert.ReferenceIdeal.reducer_argmax_f32_i32 (F := Ideal) (v, k) (w, l) = (v, k) := by
      simp [hne, h2, Cert.ReferenceIdeal.reducer_argmax_f32_i32, h1, IntOp.ori, IntOp.andi, Scalar.select]
    rw [this]
    exact ⟨Or.inl rfl, Or.inr ⟨rfl, le_rfl⟩, Or.inl h⟩

/-- A fold of the reducer returns one of the pairs it is given, and the best of them. -/
theorem foldl_spec (L : List (Ideal .f32 × BitVec 32)) : ∀ a, L.foldl (Cert.ReferenceIdeal.reducer_argmax_f32_i32 (F := Ideal)) a ∈ a :: L
    ∧ ∀ p ∈ a :: L, Wins (L.foldl (Cert.ReferenceIdeal.reducer_argmax_f32_i32 (F := Ideal)) a) p := by
  induction L with
  | nil => intro a; simp [Wins]
  | cons b L ih =>
    intro a
    obtain ⟨h1, h2⟩ := ih (Cert.ReferenceIdeal.reducer_argmax_f32_i32 (F := Ideal) a b)
    obtain ⟨e, ha, hb⟩ := reducer_spec a b
    have h0 := h2 _ List.mem_cons_self
    refine ⟨?_, ?_⟩
    · rw [List.foldl_cons]
      rcases List.mem_cons.mp h1 with h | h
      · rw [h]
        rcases e with e | e <;> simp [e]
      · simp [h]
    · intro p hp
      rw [List.foldl_cons]
      rcases List.mem_cons.mp hp with rfl | hp
      · exact h0.trans ha
      rcases List.mem_cons.mp hp with rfl | hp
      · exact h0.trans hb
      · exact h2 p (List.mem_cons_of_mem _ hp)

variable (a3 : FVec Ideal S128x301 .f32)

/-- What the arg-max returns: the index `k` of a place that holds the greatest count of its row, the first such place;
    index 0 when the whole row is `-∞`. -/
theorem argm_spec (b : Fin 128) : ∃ k : Fin 301, Ref.argm a3 (ix1 b) = BitVec.ofNat 32 k
    ∧ ∀ l : Fin 301, a3 (ix2 b l) < a3 (ix2 b k) ∨ (a3 (ix2 b k) = a3 (ix2 b l) ∧ k ≤ l) := by
  have hr : (⟨2, ![128, 301]⟩ : Shape).ReducesTo [1] S128 := Cert.ReferenceIdeal.Gen.reducesTo_S128x301_S128_d1
  have hL : ∀ p : Ideal .f32 × BitVec 32, p ∈ Host.argReduceFiber a3 (iotaInDim S128x301 32 1)
      Cert.ReferenceIdeal.Gen.reducesTo_S128x301_S128_d1 (ix1 b) ↔ ∃ l : Fin 301, p = (a3 (ix2 b l), BitVec.ofNat 32 l) := by
    intro p
    simp only [Host.argReduceFiber, List.mem_map, List.mem_filter, List.mem_finRange, true_and, decide_eq_true_eq]
    constructor
    · rintro ⟨n, hn, rfl⟩
      obtain ⟨l, hl⟩ := (hr.fiber_r2_a1 _ _).mp hn
      refine ⟨l, ?_⟩
      rw [← hl]
      rfl
    · rintro ⟨l, rfl⟩
      refine ⟨S128x301.rowMajor (ix2 b l), ?_, ?_⟩
      · rw [Equiv.symm_apply_apply]
        exact (hr.fiber_r2_a1 _ _).mpr ⟨l, rfl⟩
      · rw [Equiv.symm_apply_apply]
        rfl
  have hval : Ref.argm a3 (ix1 b) = ((Host.argReduceFiber a3 (iotaInDim S128x301 32 1)
      Cert.ReferenceIdeal.Gen.reducesTo_S128x301_S128_d1 (ix1 b)).foldl (Cert.ReferenceIdeal.reducer_argmax_f32_i32 (F := Ideal)) (⊥, 0#32)).2 := by
    unfold Ref.argm
    rw [Ideal.argReduce_eq_reduce2, Host.reduce2_eq_foldl_fiber]
    have hb : Ideal.ofBits .f32 0xFF800000#32 = ⊥ := c_bot
    rw [← hb]
    rfl
  obtain ⟨h1, h2⟩ := foldl_spec (Host.argReduceFiber a3 (iotaInDim S128x301 32 1)
      Cert.ReferenceIdeal.Gen.reducesTo_S128x301_S128_d1 (ix1 b)) (⊥, 0#32)
  rw [hval]
  rcases List.mem_cons.mp h1 with h | h
  · refine ⟨0, by rw [h]; rfl, fun l => ?_⟩
    rw [h] at h2
    have hbot : ∀ l : Fin 301, a3 (ix2 b l) = (⊥ : EReal) := fun l => by
      rcases h2 _ (List.mem_cons_of_mem _ ((hL _).mpr ⟨l, rfl⟩)) with h' | h'
      · exact absurd h' not_lt_bot
      · exact h'.1.symm
    exact Or.inr ⟨by rw [hbot, hbot], Fin.zero_le l⟩
  · obtain ⟨k, hk⟩ := (hL _).mp h
    refine ⟨k, by rw [hk], fun l => ?_⟩
    have := h2 _ (List.mem_cons_of_mem _ ((hL _).mpr ⟨l, rfl⟩))
    rw [hk] at this
    rcases this with h' | ⟨h', h''⟩
    · exact Or.inl h'
    · refine Or.inr ⟨h', ?_⟩
      rw [toInt_nat _ (by omega), toInt_nat _ (by omega)] at h''
      exact Fin.le_def.mpr (by exact_mod_cast h'')

/-- A fold of signed minima is the word found among its entries that none of them is below. -/
theorem fold_minsi {ι : Type} (s : Finset ι) (f : ι → BitVec 32) (init z : BitVec 32) (hm : ∀ a ∈ s, z.toInt ≤ (f a).toInt)
    (hi : z.toInt ≤ init.toInt) (hz : ∃ a ∈ s, f a = z) : Finset.fold IntOp.minsi init f s = z := by
  classical
  have step : ∀ x y : BitVec 32, (IntOp.minsi x y).toInt = min x.toInt y.toInt := fun x y => by
    unfold IntOp.minsi
    rcases lt_or_ge x.toInt y.toInt with h | h
    · rw [if_pos (BitVec.slt_iff_toInt_lt.mpr h), min_eq_left h.le]
    · rw [if_neg (fun h' => absurd (BitVec.slt_iff_toInt_lt.mp h') (not_lt.mpr h)), min_eq_right h]
  have lower : ∀ t : Finset ι, (∀ a ∈ t, z.toInt ≤ (f a).toInt) → z.toInt ≤ (Finset.fold IntOp.minsi init f t).toInt := by
    intro t
    induction t using Finset.induction_on with
    | empty => intro _; simpa using hi
    | insert a t ha ih =>
      intro h
      rw [Finset.fold_insert ha, step]
      exact le_min (h a (Finset.mem_insert_self a t)) (ih fun b hb => h b (Finset.mem_insert_of_mem hb))
  obtain ⟨a, ha, rfl⟩ := hz
  refine BitVec.eq_of_toInt_eq (le_antisymm ?_ (lower s hm))
  rw [← Finset.insert_erase ha, Finset.fold_insert (Finset.notMem_erase a s), step]
  exact min_le_left _ _

/-- The kernel's length of row `b`, read from the filled-up counts. -/
theorem seqLen_apply (x3 : FVec Ideal S128x384 .f32) (b : Fin 128) : seqLen x3 (ix2 b 0)
    = IntOp.maxsi (Finset.univ.fold IntOp.minsi 2147483647#32 fun x : Fin 384 =>
        if x3 (ix2 b x) = Finset.univ.sup (fun y : Fin 384 => (x3 (ix2 b y) : EReal)) then BitVec.ofNat 32 x.val
        else 1073741824#32) 1#32 := by
  simp only [seqLen, greatest, ← fold_max]
  pointwise

/-- The filled-up counts. -/
theorem counts_apply (b : Fin 128) (x : Fin 384) :
    counts a3 (ix2 b x) = if h : x.val < 301 then a3 (ix2 b ⟨x.val, h⟩) else (⊥ : EReal) := by
  rw [← c_bot]
  simp only [counts]
  pointwise

/-- A column of one word a row, as a vector. -/
theorem column_apply (q : IVec S128x1 32) (b : Fin 128) : shapeCast S128 q shapeCasts_S128x1_S128 (ix1 b) = q (ix2 b 0) := by
  pointwise

/-- The kernel's length of row `b`: the first place that holds the greatest count, and at least 1. -/
theorem outLens_apply (b : Fin 128) (k : Fin 301)
    (hk : ∀ l : Fin 301, a3 (ix2 b l) < a3 (ix2 b k) ∨ (a3 (ix2 b k) = a3 (ix2 b l) ∧ k ≤ l)) :
    outLens a3 (ix1 b) = IntOp.maxsi (BitVec.ofNat 32 k) 1#32 := by
  have hle : ∀ x : Fin 384, counts a3 (ix2 b x) ≤ a3 (ix2 b k) := fun x => by
    rw [counts_apply]
    split_ifs with h
    · exact (hk _).elim (fun h => le_of_lt h) fun h => le_of_eq h.1.symm
    · exact bot_le
  have hself : counts a3 (ix2 b ⟨k.val, by omega⟩) = a3 (ix2 b k) := by rw [counts_apply, dif_pos k.isLt]
  have hsup : (Finset.univ.sup fun x : Fin 384 => (counts a3 (ix2 b x) : EReal)) = a3 (ix2 b k) :=
    le_antisymm (Finset.sup_le fun x _ => hle x) (hself.symm.trans_le
      (Finset.le_sup (f := fun x : Fin 384 => (counts a3 (ix2 b x) : EReal)) (Finset.mem_univ _)))
  rw [outLens, column_apply, seqLen_apply, hsup]
  refine congrArg (IntOp.maxsi · 1#32) ?_
  have hk' := toInt_nat k.val (by omega)
  refine fold_minsi _ _ _ _ (fun x _ => ?_) (by rw [hk', show (2147483647#32).toInt = 2147483647 by decide]; omega)
    ⟨⟨k.val, by omega⟩, Finset.mem_univ _, if_pos hself⟩
  split_ifs with h1
  · rw [hk', toInt_nat _ (by omega)]
    by_cases h2 : x.val < 301
    · rw [counts_apply, dif_pos h2] at h1
      rcases hk ⟨x, h2⟩ with h3 | h3
      · exact absurd h1 (ne_of_lt h3)
      · exact_mod_cast h3.2
    · omega
  · rw [hk', show (1073741824#32).toInt = 1073741824 by decide]
    omega

/-- The greater of two signed words does not depend on their order. -/
theorem maxsi_comm (x y : BitVec 32) : IntOp.maxsi x y = IntOp.maxsi y x := by
  unfold IntOp.maxsi
  rcases lt_trichotomy x.toInt y.toInt with h | h | h <;> simp [BitVec.slt_iff_toInt_lt, h, not_lt.mpr h.le]
  exact (BitVec.eq_of_toInt_eq h).symm

/-- The sequence lengths agree. -/
theorem lens_eq : outLens a3 = Ref.lens a3 := by
  funext i
  obtain ⟨b, rfl⟩ : ∃ b : Fin 128, i = ix1 b := ⟨i 0, by funext a; match a with | ⟨0, _⟩ => rfl⟩
  obtain ⟨k, hk, h⟩ := argm_spec a3 b
  rw [outLens_apply a3 b k h, maxsi_comm]
  show _ = IntOp.maxsi 1#32 (Ref.argm a3 (ix1 b))
  rw [hk]

end Lengths

end Cert.Kern

end
-- ==== Proof.Boxes.lean ====
/-
  The picked boxes: the kernel's products with one-hot rows and the reference's gather read the same box edge.
-/
module

public import proofs.«01_k».proof.Proof.Words
public import proofs.«01_k».proof.Proof.Simple

@[expose] public section

set_option maxRecDepth 16384

noncomputable section

namespace Cert.Kern

open Cert.KernelIdeal Cert.KernelIdeal.Gen
open Idealize.ShloMosaic Idealize.ShloMosaic.TcCoe
open Idealize.SL Idealize.SL.Sem
open Cert.Consts Cert.Rank Cert.Sorted Cert.Mask

/-! ## The kernel's side -/

section

variable (y : IVec S128x304 32) (e : FVec Ideal S128x384 .f32) (b : Fin 128)

/-- A product with a one-hot row is the entry at its one. -/
theorem picked_apply (o : ℕ) (h : S128x304.Slices ![0, o] S128x16) (d : Fin 16) (ho : o + d.val < 304) (k : Fin 384)
    (hy : y (ix2 b ⟨o + d.val, ho⟩) = BitVec.ofNat 32 k.val) : picked y e o h (ix2 b d) = e (ix2 b k) := by
  have e1 : picked y e o h (ix2 b d) = ∑ x : Fin 384, FloatOps.sitofp (F := Ideal) FTy.f32
      (BitVec.setWidth 32 (IntOp.cmpi .eq (y (ix2 b ⟨o + d.val, ho⟩)) (BitVec.ofNat 32 x.val))) * (e (ix2 b x) : EReal) := by
    simp only [picked]
    pointwise
  rw [e1, hy]
  have hk : ∀ x : Fin 384, BitVec.ofNat 32 k.val = BitVec.ofNat 32 x.val ↔ x = k := fun x => by
    rw [word_eq_iff (by omega) (by omega), Fin.ext_iff, eq_comm]
  simp only [indicator, hk]
  rw [Finset.sum_eq_single k]
  · rw [if_pos rfl, one_mul]
  · intro x _ hx
    rw [if_neg hx, zero_mul]
  · intro h
    exact absurd (Finset.mem_univ k) h

/-- Sixteen columns from `16 r` on lie within the 304. -/
theorem slices_at (r : Fin 19) : S128x304.Slices ![0, 16 * r.val] S128x16 := by
  revert r
  decide

/-- Query `16 r + d` is picked in slice `r`. -/
theorem gathered_at (r : Fin 19) (d : Fin 16) :
    gathered y e (ix2 b ⟨16 * r.val + d.val, by omega⟩) = picked y e (16 * r.val) (slices_at r) (ix2 b d) := by
  refine concatenate_ofFn_apply (t := S128x304) 1 (fun n : Fin 19 => picked y e (16 * n.val) (slices_at n)) _ rfl 16 rfl _ r ?_
    (ix2 b d) ?_ ?_
  · show (16 * r.val + d.val) / 16 = r.val
    omega
  · show d.val = (16 * r.val + d.val) % 16
    omega
  · intro a ha
    match a with
    | ⟨0, _⟩ => rfl
    | ⟨1, _⟩ => exact absurd rfl ha

/-- What is picked for a query: the entry at its box. -/
theorem gathered_apply (q : Fin 304) (k : Fin 384) (hy : y (ix2 b q) = BitVec.ofNat 32 k.val) : gathered y e (ix2 b q) = e (ix2 b k) := by
  obtain ⟨r, d, rfl⟩ : ∃ (r : Fin 19) (d : Fin 16), q = ⟨16 * r.val + d.val, by omega⟩ :=
    ⟨⟨q.val / 16, by omega⟩, ⟨q.val % 16, by omega⟩, Fin.ext (Nat.div_add_mod _ _).symm⟩
  rw [gathered_at]
  exact picked_apply y e b _ _ d _ k hy

/-- An edge kept between 0 and 1, times the row's scale. -/
def edge (z s : EReal) : EReal := FloatOps.mulf (F := Ideal) (φ := .f32)
  (FloatOps.minimumf (F := Ideal) (φ := .f32) (Ideal.ofBits .f32 0x3F800000#32)
    (FloatOps.maximumf (F := Ideal) (φ := .f32) (Ideal.ofBits .f32 0x00000000#32) z)) s

/-- An edge scaled by the kernel, at a box: clipped, and multiplied by the row's size. -/
theorem scaled_apply (a2 : FVec Ideal S128 .f32) (k : Fin 384) : scaled e (scaleCol a2) (ix2 b k) = edge (e (ix2 b k)) (a2 (ix1 b)) := by
  simp only [scaled, scaleCol, edge]
  pointwise

/-- The first 300 of 384 columns, read at a column. -/
theorem first300'_apply (k : Fin 300) : first300' e (ix2 b k) = e (ix2 b ⟨k.val, by omega⟩) := by
  simp only [first300']
  pointwise

/-- Two arrays joined along a last axis hold the first at 0. -/
theorem paired_zero (x y : FVec Ideal S128x300 .f32) (q : Fin 300) : paired x y (ix3 b q 0) = x (ix2 b q) := by
  simp only [paired]
  pointwise

/-- Two arrays joined along a last axis hold the second at 1. -/
theorem paired_one (x y : FVec Ideal S128x300 .f32) (q : Fin 300) : paired x y (ix3 b q 1) = y (ix2 b q) := by
  simp only [paired]
  pointwise

end

/-! ## The reference's side -/

section

variable (x : FVec Ideal S128x300x2 .f32) (t : IVec S128x300x1 32) (b : Fin 128) (q : Fin 300) (d : Fin 2)

/-- The gather reads the row's entry at the start index. -/
theorem gather_apply (k : Fin 300) (hk : t (ix3 b q 0) = BitVec.ofNat 32 k.val) :
    Host.gather Cert.ReferenceIdeal.gather_S128x300x2_S128x300x1_S128x300x2_2_1_0_0_1_2_112 x t (ix3 b q d) = x (ix3 b k d) := by
  unfold Host.gather
  congr 1
  funext a
  refine Fin.ext ?_
  set D := Cert.ReferenceIdeal.gather_S128x300x2_S128x300x1_S128x300x2_2_1_0_0_1_2_112 with hD
  show D.start (ix3 b q d) t a + D.batchCoord (ix3 b q d) a + D.offCoord (ix3 b q d) a = (ix3 b k d a).val
  match a with
  | ⟨0, _⟩ =>
    show D.start (ix3 b q d) t (0 : Fin 3) + D.batchCoord (ix3 b q d) (0 : Fin 3) + D.offCoord (ix3 b q d) (0 : Fin 3) = b.val
    have h0 : (0 : Fin 3) ∈ D.operandBatchingDims := List.mem_singleton.mpr rfl
    rw [show D.start (ix3 b q d) t (0 : Fin 3) = 0 from D.start_batching _ _ _ h0,
      show D.offCoord (ix3 b q d) (0 : Fin 3) = 0 from D.offCoord_eq_zero _ _ (by decide)]
    unfold GatherDims.batchCoord
    rw [dif_pos h0, zero_add]
    rfl
  | ⟨1, _⟩ =>
    show D.start (ix3 b q d) t (1 : Fin 3) + D.batchCoord (ix3 b q d) (1 : Fin 3) + D.offCoord (ix3 b q d) (1 : Fin 3) = k.val
    have h1 : (1 : Fin 3) ∈ D.startIndexMap := List.mem_singleton.mpr rfl
    have hs : D.siIdx (ix3 b q d) ⟨D.startIndexMap.idxOf (1 : Fin 3), List.idxOf_lt_length_iff.2 h1⟩ = ix3 b q 0 := by
      funext c
      refine Fin.ext ?_
      match c with
      | ⟨0, _⟩ => rfl
      | ⟨1, _⟩ => rfl
      | ⟨2, _⟩ => rfl
    rw [show D.batchCoord (ix3 b q d) (1 : Fin 3) = 0 from D.batchCoord_eq_zero _ _ (by decide),
      show D.offCoord (ix3 b q d) (1 : Fin 3) = 0 from D.offCoord_eq_zero _ _ (by decide)]
    unfold GatherDims.start
    rw [dif_pos h1, hs, hk, toInt_nat _ (by omega), Int.toNat_natCast]
    show min k.val 299 + 0 + 0 = k.val
    omega
  | ⟨2, _⟩ =>
    show D.start (ix3 b q d) t (2 : Fin 3) + D.batchCoord (ix3 b q d) (2 : Fin 3) + D.offCoord (ix3 b q d) (2 : Fin 3) = d.val
    have h2 : (2 : Fin 3) ∉ D.startIndexMap := by decide
    have h2' : (2 : Fin 3) ∈ D.sKept := by decide
    rw [show D.batchCoord (ix3 b q d) (2 : Fin 3) = 0 from D.batchCoord_eq_zero _ _ (by decide)]
    unfold GatherDims.start GatherDims.offCoord
    rw [dif_neg h2, dif_pos h2', zero_add, zero_add]
    rfl

/-- The reference's gather at a query whose number is `k` reads box `k`. -/
theorem taken_apply (k : Fin 300) (hk : t (ix3 b q 0) = BitVec.ofNat 32 k.val) : Ref.taken x t (ix3 b q d) = x (ix3 b k d) := by
  have hw : ∀ c, Ref.wrapped t (ix3 b q c) = BitVec.ofNat 32 k.val := fun c => by
    obtain rfl : c = 0 := Subsingleton.elim _ _
    have e : Ref.wrapped t (ix3 b q 0) = Scalar.select (IntOp.cmpi .slt (t (ix3 b q 0)) 0#32) (IntOp.addi (t (ix3 b q 0)) 300#32)
        (t (ix3 b q 0)) := by
      simp only [Ref.wrapped, Ref.fill1]
      pointwise
    rw [e, hk, slt_zero (by omega)]
    rfl
  have e : ∀ (m : IVec S128x300 1) (g : FVec Ideal S128x300x2 .f32), select (broadcastInDim S128x300x2 ![0, 1]
      Cert.ReferenceIdeal.Gen.bcast_S128x300_S128x300x2_0_1 m) g
      (broadcastInDim S128x300x2 ![] Cert.ReferenceIdeal.Gen.bcast_S_S128x300x2 (constant S_ .f32 0x7FC00000#32)) (ix3 b q d)
      = Scalar.select (m (ix2 b q)) (g (ix3 b q d)) (Ideal.ofBits .f32 0x7FC00000#32) := fun m g => by
    pointwise
  have hi : Ref.inside t (ix2 b q) = 1#1 := by
    have e : Ref.inside t (ix2 b q) = Finset.univ.fold IntOp.andi 1#1 fun c : Fin 1 =>
        IntOp.andi (IntOp.cmpi .sge (Ref.wrapped t (ix3 b q c)) 0#32) (IntOp.cmpi .sle (Ref.wrapped t (ix3 b q c)) 299#32) := by
      simp only [Ref.inside, Ref.fill1]
      pointwise
    rw [e]
    simp only [hw]
    have h1 : IntOp.cmpi .sge (BitVec.ofNat 32 k.val) 0#32 = 1#1 := (sle_iff (m := 0) (by norm_num) (by omega)).mpr (Nat.zero_le _)
    have h2 : IntOp.cmpi .sle (BitVec.ofNat 32 k.val) 299#32 = 1#1 := (sle_iff (by omega) (by norm_num)).mpr (by omega)
    rw [h1, h2]
    decide
  refine (e _ _).trans ?_
  rw [hi, gather_apply x _ b q d k (hw 0)]
  rfl

/-- What the reference gathers from its clipped boxes and scales is the clipped and scaled edge of the box. -/
theorem clipped_apply (a1 : FVec Ideal S128x300x2 .f32) (a2 : FVec Ideal S128 .f32) (k : Fin 300) (g : FVec Ideal S128x300x2 .f32)
    (hg : g (ix3 b q d) = Ref.clipped a1 (ix3 b k d)) : mulf g (Ref.scale a2) (ix3 b q d) = edge (Ref.raw a1 (ix3 b k d)) (a2 (ix1 b)) := by
  have e1 : mulf g (Ref.scale a2) (ix3 b q d) = FloatOps.mulf (F := Ideal) (φ := .f32) (g (ix3 b q d)) (a2 (ix1 b)) := by
    simp only [Ref.scale]
    pointwise
    simp only [dite_eq_ite, ite_self]
  have e2 : ∀ r : FVec Ideal S128x300x2 .f32, minimumf (broadcastInDim S128x300x2 ![] Cert.ReferenceIdeal.Gen.bcast_S_S128x300x2 (constant S_ .f32 0x3F800000#32))
      (maximumf (broadcastInDim S128x300x2 ![] Cert.ReferenceIdeal.Gen.bcast_S_S128x300x2 (constant S_ .f32 0x00000000#32)) r) (ix3 b k d)
      = FloatOps.minimumf (F := Ideal) (φ := .f32) (Ideal.ofBits .f32 0x3F800000#32)
        (FloatOps.maximumf (F := Ideal) (φ := .f32) (Ideal.ofBits .f32 0x00000000#32) (r (ix3 b k d))) := fun r => by
    pointwise
  rw [e1, hg]
  unfold Ref.clipped
  rw [e2]
  rfl

end

/-! ## The result -/

variable (a0 : FVec Ideal S128x300x91 .f32) (a1 : FVec Ideal S128x300x2 .f32) (a2 : FVec Ideal S128 .f32) (b : Fin 128) (q : Fin 300)

/-- The box of the reference's query `q`. -/
def bestBox : Fin 300 := ⟨(best a0 b q).val / 91, by have := (best a0 b q).isLt; omega⟩

/-- The reference's picked box. -/
theorem boxes_apply (d : Fin 2) : Ref.boxes a0 a1 a2 (ix3 b q d) = edge (Ref.raw a1 (ix3 b (bestBox a0 b q) d)) (a2 (ix1 b)) := by
  have e : ∀ y : IVec S128x300 32, broadcastInDim S128x300x1 ![0, 1] Cert.ReferenceIdeal.Gen.bcast_S128x300_S128x300x1_0_1 y (ix3 b q 0)
      = y (ix2 b q) := fun y => by
    pointwise
  exact clipped_apply b q d a1 a2 (bestBox a0 b q) _ (taken_apply _ _ b q d (bestBox a0 b q) ((e _).trans (tops_apply a0 b q)))

variable (h : query (place (chunkOf (Ref.idxs a0))) (ix2 b q) = 1#1)
include h

/-- What the kernel picks on a claimed query. -/
theorem edge_apply (e : FVec Ideal S128x384 .f32) : first300 (gathered (clampedNo (boxNo (chunked a0))) (scaled e (scaleCol a2))) (ix2 b q)
    = edge (first300' e (ix2 b (bestBox a0 b q))) (a2 (ix1 b)) := by
  have hb := (bestBox a0 b q).isLt
  rw [first300_apply, gathered_apply _ _ b ⟨q.val, by omega⟩ ⟨(bestBox a0 b q).val, by omega⟩
    (clampedNo_apply _ b _ (hb.trans (by norm_num)) (boxNo_apply a0 b q h) hb), scaled_apply, first300'_apply]

/-- The picked boxes agree on a claimed query. -/
theorem outBoxes_apply (d : Fin 2) : outBoxes a0 a1 a2 (ix3 b q d) = Ref.boxes a0 a1 a2 (ix3 b q d) := by
  rw [boxes_apply, ← raw_eq]
  match d with
  | 0 => rw [outBoxes, outRaw, paired_zero, paired_zero, edge_apply a0 a2 b q h]
  | 1 => rw [outBoxes, outRaw, paired_one, paired_one, edge_apply a0 a2 b q h]

end Cert.Kern

end
-- ==== Proof.Masked.lean ====
/-
  The results whole: at every element the mask claims, the kernel's result is the reference's.
-/
module

public import proofs.«01_k».proof.Proof.Boxes

@[expose] public section

set_option maxRecDepth 16384

noncomputable section

namespace Cert.Masked

open Cert.On_spread Cert.On_spread.Gen
open Idealize.ShloMosaic
open Cert.Mask Cert.Kern

variable (a0 : FVec Ideal S128x300x91 .f32) (a1 : FVec Ideal S128x300x2 .f32) (a2 : FVec Ideal S128 .f32)
  (a3 : FVec Ideal S128x301 .f32)

/-- An index of a result with one number per query is a row and a query. -/
theorem eq_ix2 (i : S128x300.Idx) : ∃ (b : Fin 128) (q : Fin 300), i = ix2 b q :=
  ⟨i 0, i 1, by funext a; match a with | ⟨0, _⟩ => rfl | ⟨1, _⟩ => rfl⟩

/-- An index of a result with two numbers per query is a row, a query and an edge. -/
theorem eq_ix3 (i : S128x300x2.Idx) : ∃ (b : Fin 128) (q : Fin 300) (d : Fin 2), i = ix3 b q d :=
  ⟨i 0, i 1, i 2, by funext a; match a with | ⟨0, _⟩ => rfl | ⟨1, _⟩ => rfl | ⟨2, _⟩ => rfl⟩

/-- The scores agree wherever they are claimed. -/
theorem scores_on (i : S128x300.Idx) (h : (fn a0 a1 a2 a3).1 i = 1#1) : outScores a0 i = Ref.vals a0 i := by
  obtain ⟨b, q, rfl⟩ := eq_ix2 i
  rw [fn_eq] at h
  dsimp only at h
  exact outScores_apply a0 b q h

/-- The labels agree wherever they are claimed. -/
theorem labels_on (i : S128x300.Idx) (h : (fn a0 a1 a2 a3).2.1 i = 1#1) : outLabels a0 i = Ref.labels a0 i := by
  obtain ⟨b, q, rfl⟩ := eq_ix2 i
  rw [fn_eq] at h
  dsimp only at h
  exact outLabels_apply a0 b q h

/-- The picked boxes agree wherever they are claimed. -/
theorem boxes_on (i : S128x300x2.Idx) (h : (fn a0 a1 a2 a3).2.2.1 i = 1#1) : outBoxes a0 a1 a2 i = Ref.boxes a0 a1 a2 i := by
  obtain ⟨b, q, d, rfl⟩ := eq_ix3 i
  rw [fn_eq] at h
  dsimp only at h
  have e : ∀ u : IVec S128x300 1, broadcastInDim S128x300x2 ![0, 1] bcast_S128x300_S128x300x2_0_1 u (ix3 b q d) = u (ix2 b q) := fun u => by
    pointwise
  exact outBoxes_apply a0 a1 a2 b q ((e _).symm.trans h) d

/-- The box numbers agree wherever they are claimed. -/
theorem tops_on (i : S128x300.Idx) (h : (fn a0 a1 a2 a3).2.2.2.2.1 i = 1#1) : outTops a0 i = Ref.tops a0 i := by
  obtain ⟨b, q, rfl⟩ := eq_ix2 i
  rw [fn_eq] at h
  dsimp only at h
  exact outTops_apply a0 b q h

end Cert.Masked

end
-- ==== Proof.lean ====
/-
  The certificate's claims, put together. The two frames of the kernel are the generated ones; the reference's frame is read
  off its run. The value claim takes the kernel's results from `Cert.Kern.run` and the reference's from `Cert.Ref.run`,
  and compares them element by element where the mask claims them.
-/
module

public import proofs.«01_k».proof.Defs
public import proofs.«01_k».proof.Proof.Gen.Kernel.Frame
public import proofs.«01_k».proof.Proof.Gen.KernelIdeal.Frame
public import proofs.«01_k».proof.Proof.Run
public import proofs.«01_k».proof.Proof.Masked

@[expose] public section

set_option maxRecDepth 16384

noncomputable section

namespace Cert.Proof

open Idealize.ShloMosaic Idealize.ShloMosaic.TcCoe Idealize.SL.Sem

/-- The reference ends, leaving its arguments alone; it has no counter. -/
theorem reference_frame : Cert.quiescent_ReferenceIdeal (hReferenceIdeal := Cert.ReferenceIdeal.Gen.facts) := by
  intro m g _
  refine (θ_run _ _ _).mono (fun r h => ⟨fun c => (h c).2.2.2.2.2.2, sem_eq_zero_of_no_sems (by decide) r.2⟩) (Ref.run m g)

/-- Kernel and reference agree wherever the mask claims it. -/
theorem agree : Cert.algebraic_KernelIdeal_ReferenceIdeal_on_spread (hKernelIdeal := Cert.KernelIdeal.Gen.facts)
    (hReferenceIdeal := Cert.ReferenceIdeal.Gen.facts) (hOn_spread := Cert.On_spread.Gen.facts) := by
  intro m g m' g' _ hm
  refine ⟨fun c => Ref.vals (m ((c.tc : Thread Cert.KernelIdeal.nD Cert.KernelIdeal.τ).loc Cert.KernelIdeal.main_arg0)),
    fun c => Ref.labels (m ((c.tc : Thread Cert.KernelIdeal.nD Cert.KernelIdeal.τ).loc Cert.KernelIdeal.main_arg0)),
    fun c => Ref.boxes (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Ref.raw (m ((c.tc : Thread Cert.KernelIdeal.nD Cert.KernelIdeal.τ).loc Cert.KernelIdeal.main_arg1)),
    fun c => Ref.tops (m ((c.tc : Thread Cert.KernelIdeal.nD Cert.KernelIdeal.τ).loc Cert.KernelIdeal.main_arg0)),
    fun c => Ref.lens (m ((c.tc : Thread Cert.KernelIdeal.nD Cert.KernelIdeal.τ).loc Cert.KernelIdeal.main_arg3)), ?_, ?_⟩
  · refine (θ_run _ _ _).mono (fun r h c => ?_) (Kern.run m g)
    obtain ⟨h0, h1, h2, h3, h4, h5, hargs⟩ := h c
    refine ⟨fun i hi => (congrFun h0 i).trans (Masked.scores_on _ _ _ _ i hi),
      fun i hi => (congrFun h1 i).trans (Masked.labels_on _ _ _ _ i hi),
      fun i hi => (congrFun h2 i).trans (Masked.boxes_on _ _ _ _ i hi),
      fun i _ => (congrFun h3 i).trans (congrFun (Kern.raw_eq _) i),
      fun i hi => (congrFun h4 i).trans (Masked.tops_on _ _ _ _ i hi),
      fun i _ => (congrFun h5 i).trans (congrFun (Kern.lens_eq _) i), hargs⟩
  · refine (θ_run _ _ _).mono (fun r h c => ?_) (Ref.run m' g')
    obtain ⟨h0, h1, h2, h3, h4, h5, hargs⟩ := h c
    obtain ⟨e0, e1, e2, e3⟩ := hm c
    rw [e0] at h0 h1 h2 h4
    rw [e1] at h2 h3
    rw [e2] at h2
    rw [e3] at h5
    exact ⟨fun i _ => congrFun h0 i, fun i _ => congrFun h1 i, fun i _ => congrFun h2 i, fun i _ => congrFun h3 i,
      fun i _ => congrFun h4 i, fun i _ => congrFun h5 i, hargs⟩

/-- Everything the certificate claims. -/
theorem claim : Cert.Claim :=
  ⟨Cert.Kernel.Gen.facts, Cert.KernelIdeal.Gen.facts, Cert.ReferenceIdeal.Gen.facts, Cert.On_spread.Gen.facts,
    fun m ρ _ => Cert.Kernel.Gen.frame m ρ, fun m ρ _ => Cert.KernelIdeal.Gen.frame m ρ, reference_frame, trivial, agree⟩

end Cert.Proof

end
